-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 64, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 64, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x4096 : Shape := ⟨2, ![512, 4096]⟩
abbrev S2x256x4x64 : Shape := ⟨4, ![2, 256, 4, 64]⟩
abbrev S4096x512 : Shape := ⟨2, ![4096, 512]⟩
abbrev S512x512 : Shape := ⟨2, ![512, 512]⟩
abbrev S512x256 : Shape := ⟨2, ![512, 256]⟩
abbrev S256x512 : Shape := ⟨2, ![256, 512]⟩
abbrev S16x32x512 : Shape := ⟨3, ![16, 32, 512]⟩
abbrev S2 : Shape := ⟨1, ![2]⟩
abbrev S16 : Shape := ⟨1, ![16]⟩
abbrev S_ : Shape := ⟨0, ![]⟩
abbrev S1 : Shape := ⟨1, ![1]⟩
abbrev S256x256 : Shape := ⟨2, ![256, 256]⟩
abbrev S1x256x512 : Shape := ⟨3, ![1, 256, 512]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S64x512 : Shape := ⟨2, ![64, 512]⟩
abbrev S1x32x512 : Shape := ⟨3, ![1, 32, 512]⟩
abbrev S32x512 : Shape := ⟨2, ![32, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x4096, .f32⟩
  | .hbm, ⟨2, _⟩ => ⟨S2x256x4x64, .f32⟩
  | .hbm, ⟨3, _⟩ => ⟨S2x256x4x64, .f32⟩
  | .hbm, ⟨4, _⟩ => ⟨S4096x512, .f32⟩
  | .hbm, ⟨5, _⟩ => ⟨S512x512, .f32⟩
  | .local _ .vmem, ⟨0, _⟩ => ⟨S2x256x512, .f32⟩
  | .local _ .vmem, ⟨1, _⟩ => ⟨S2x256x4x64, .f32⟩
  | .local _ .vmem, ⟨2, _⟩ => ⟨S2x256x4x64, .f32⟩
  | .local _ .vmem, ⟨3, _⟩ => ⟨S512x512, .f32⟩
  | .local _ .vmem, ⟨4, _⟩ => ⟨S512x256, .f32⟩
  | .local _ .vmem, ⟨5, _⟩ => ⟨S256x512, .f32⟩
  | .local _ .vmem, ⟨6, _⟩ => ⟨S512x512, .f32⟩
  | .local _ .vmem, ⟨7, _⟩ => ⟨S16x32x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  ![0, v64.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_60 : BitVec 32 := 256#32
  let v65 : BitVec 32 := Scalar.muli v2 c256_i32_60
  let c0_i32_64 : BitVec 32 := 0#32
  ![v65.toNat, 0]
def k0_off3 (d0 : Dev nD) (c1_i32_215 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v284 : BitVec 32 := Scalar.addi v2 c1_i32_215
  let c16_i32_216 : BitVec 32 := 16#32
  let v285 : BitVec 32 := Scalar.remsi v284 c16_i32_216
  ![v285.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let c0_i32_220 : BitVec 32 := 0#32
  ![v2.toNat, 0, 0]
def k0_off6 (d0 : Dev nD) (c1_i32_215 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v284 : BitVec 32 := Scalar.addi v2 c1_i32_215
  let c16_i32_216 : BitVec 32 := 16#32
  let v285 : BitVec 32 := Scalar.remsi v284 c16_i32_216
  let c32_i32 : BitVec 32 := 32#32
  let v286 : BitVec 32 := Scalar.muli v285 c32_i32
  let c0_i32_221 : BitVec 32 := 0#32
  ![v286.toNat, 0]
def k0_dev16 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_215 : BitVec 32 := 1#32
  let v284 : BitVec 32 := Scalar.addi v2 c1_i32_215
  let c16_i32_216 : BitVec 32 := 16#32
  let v285 : BitVec 32 := Scalar.remsi v284 c16_i32_216
  let c1_i32_217 : BitVec 32 := 1#32
  let v287 : BitVec 32 := Scalar.muli v285 c1_i32_217
  let v288 : BitVec 32 := Scalar.addi c0_i32_218 v287
  v288.toNat
def k0_dev17 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_222 : BitVec 32 := 2#32
  let v296 : BitVec 32 := Scalar.addi v2 c2_i32_222
  let c16_i32_223 : BitVec 32 := 16#32
  let v297 : BitVec 32 := Scalar.remsi v296 c16_i32_223
  let c1_i32_225 : BitVec 32 := 1#32
  let v299 : BitVec 32 := Scalar.muli v297 c1_i32_225
  let v300 : BitVec 32 := Scalar.addi c0_i32_226 v299
  v300.toNat
def k0_dev18 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_230 : BitVec 32 := 3#32
  let v308 : BitVec 32 := Scalar.addi v2 c3_i32_230
  let c16_i32_231 : BitVec 32 := 16#32
  let v309 : BitVec 32 := Scalar.remsi v308 c16_i32_231
  let c1_i32_233 : BitVec 32 := 1#32
  let v311 : BitVec 32 := Scalar.muli v309 c1_i32_233
  let v312 : BitVec 32 := Scalar.addi c0_i32_234 v311
  v312.toNat
def k0_dev19 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_238 : BitVec 32 := 4#32
  let v320 : BitVec 32 := Scalar.addi v2 c4_i32_238
  let c16_i32_239 : BitVec 32 := 16#32
  let v321 : BitVec 32 := Scalar.remsi v320 c16_i32_239
  let c1_i32_241 : BitVec 32 := 1#32
  let v323 : BitVec 32 := Scalar.muli v321 c1_i32_241
  let v324 : BitVec 32 := Scalar.addi c0_i32_242 v323
  v324.toNat
def k0_dev20 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_246 : BitVec 32 := 5#32
  let v332 : BitVec 32 := Scalar.addi v2 c5_i32_246
  let c16_i32_247 : BitVec 32 := 16#32
  let v333 : BitVec 32 := Scalar.remsi v332 c16_i32_247
  let c1_i32_249 : BitVec 32 := 1#32
  let v335 : BitVec 32 := Scalar.muli v333 c1_i32_249
  let v336 : BitVec 32 := Scalar.addi c0_i32_250 v335
  v336.toNat
def k0_dev21 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_254 : BitVec 32 := 6#32
  let v344 : BitVec 32 := Scalar.addi v2 c6_i32_254
  let c16_i32_255 : BitVec 32 := 16#32
  let v345 : BitVec 32 := Scalar.remsi v344 c16_i32_255
  let c1_i32_257 : BitVec 32 := 1#32
  let v347 : BitVec 32 := Scalar.muli v345 c1_i32_257
  let v348 : BitVec 32 := Scalar.addi c0_i32_258 v347
  v348.toNat
def k0_dev22 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_262 : BitVec 32 := 7#32
  let v356 : BitVec 32 := Scalar.addi v2 c7_i32_262
  let c16_i32_263 : BitVec 32 := 16#32
  let v357 : BitVec 32 := Scalar.remsi v356 c16_i32_263
  let c1_i32_265 : BitVec 32 := 1#32
  let v359 : BitVec 32 := Scalar.muli v357 c1_i32_265
  let v360 : BitVec 32 := Scalar.addi c0_i32_266 v359
  v360.toNat
def k0_dev23 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_270 : BitVec 32 := 8#32
  let v368 : BitVec 32 := Scalar.addi v2 c8_i32_270
  let c16_i32_271 : BitVec 32 := 16#32
  let v369 : BitVec 32 := Scalar.remsi v368 c16_i32_271
  let c1_i32_273 : BitVec 32 := 1#32
  let v371 : BitVec 32 := Scalar.muli v369 c1_i32_273
  let v372 : BitVec 32 := Scalar.addi c0_i32_274 v371
  v372.toNat
def k0_dev24 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_278 : BitVec 32 := 9#32
  let v380 : BitVec 32 := Scalar.addi v2 c9_i32_278
  let c16_i32_279 : BitVec 32 := 16#32
  let v381 : BitVec 32 := Scalar.remsi v380 c16_i32_279
  let c1_i32_281 : BitVec 32 := 1#32
  let v383 : BitVec 32 := Scalar.muli v381 c1_i32_281
  let v384 : BitVec 32 := Scalar.addi c0_i32_282 v383
  v384.toNat
def k0_dev25 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_286 : BitVec 32 := 10#32
  let v392 : BitVec 32 := Scalar.addi v2 c10_i32_286
  let c16_i32_287 : BitVec 32 := 16#32
  let v393 : BitVec 32 := Scalar.remsi v392 c16_i32_287
  let c1_i32_289 : BitVec 32 := 1#32
  let v395 : BitVec 32 := Scalar.muli v393 c1_i32_289
  let v396 : BitVec 32 := Scalar.addi c0_i32_290 v395
  v396.toNat
def k0_dev26 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_294 : BitVec 32 := 11#32
  let v404 : BitVec 32 := Scalar.addi v2 c11_i32_294
  let c16_i32_295 : BitVec 32 := 16#32
  let v405 : BitVec 32 := Scalar.remsi v404 c16_i32_295
  let c1_i32_297 : BitVec 32 := 1#32
  let v407 : BitVec 32 := Scalar.muli v405 c1_i32_297
  let v408 : BitVec 32 := Scalar.addi c0_i32_298 v407
  v408.toNat
def k0_dev27 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_302 : BitVec 32 := 12#32
  let v416 : BitVec 32 := Scalar.addi v2 c12_i32_302
  let c16_i32_303 : BitVec 32 := 16#32
  let v417 : BitVec 32 := Scalar.remsi v416 c16_i32_303
  let c1_i32_305 : BitVec 32 := 1#32
  let v419 : BitVec 32 := Scalar.muli v417 c1_i32_305
  let v420 : BitVec 32 := Scalar.addi c0_i32_306 v419
  v420.toNat
def k0_dev28 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_310 : BitVec 32 := 13#32
  let v428 : BitVec 32 := Scalar.addi v2 c13_i32_310
  let c16_i32_311 : BitVec 32 := 16#32
  let v429 : BitVec 32 := Scalar.remsi v428 c16_i32_311
  let c1_i32_313 : BitVec 32 := 1#32
  let v431 : BitVec 32 := Scalar.muli v429 c1_i32_313
  let v432 : BitVec 32 := Scalar.addi c0_i32_314 v431
  v432.toNat
def k0_dev29 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_318 : BitVec 32 := 14#32
  let v440 : BitVec 32 := Scalar.addi v2 c14_i32_318
  let c16_i32_319 : BitVec 32 := 16#32
  let v441 : BitVec 32 := Scalar.remsi v440 c16_i32_319
  let c1_i32_321 : BitVec 32 := 1#32
  let v443 : BitVec 32 := Scalar.muli v441 c1_i32_321
  let v444 : BitVec 32 := Scalar.addi c0_i32_322 v443
  v444.toNat
def k0_dev30 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_326 : BitVec 32 := 15#32
  let v452 : BitVec 32 := Scalar.addi v2 c15_i32_326
  let c16_i32_327 : BitVec 32 := 16#32
  let v453 : BitVec 32 := Scalar.remsi v452 c16_i32_327
  let c1_i32_329 : BitVec 32 := 1#32
  let v455 : BitVec 32 := Scalar.muli v453 c1_i32_329
  let v456 : BitVec 32 := Scalar.addi c0_i32_330 v455
  v456.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_334 : BitVec 32 := 32#32
  let v464 : BitVec 32 := Scalar.muli v2 c32_i32_334
  let v465 : Index := Scalar.indexCast v464
  let c0_335 : Index := 0#32
  ![v465.toNat, 0]
def k0_off8 (d0 : Dev nD) (c1_i32_336 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v467 : BitVec 32 := Scalar.addi v2 c1_i32_336
  let c16_i32_337 : BitVec 32 := 16#32
  let v468 : BitVec 32 := Scalar.remsi v467 c16_i32_337
  let c0_i32_341 : BitVec 32 := 0#32
  let c0_i32_342 : BitVec 32 := 0#32
  ![v468.toNat, 0, 0]
def k0_off9 (d0 : Dev nD) (c1_i32_336 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v467 : BitVec 32 := Scalar.addi v2 c1_i32_336
  let c16_i32_337 : BitVec 32 := 16#32
  let v468 : BitVec 32 := Scalar.remsi v467 c16_i32_337
  let v477 : Index := Scalar.indexCast v468
  let c0_345 : Index := 0#32
  let c0_346 : Index := 0#32
  ![v477.toNat, 0, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_611 : BitVec 32 := 32#32
  let v803 : BitVec 32 := Scalar.muli v2 c32_i32_611
  let c0_i32_614 : BitVec 32 := 0#32
  ![v803.toNat, 0]
def k0_dev31 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_608 : BitVec 32 := 1#32
  let v800 : BitVec 32 := Scalar.addi v2 c1_i32_608
  let c16_i32_609 : BitVec 32 := 16#32
  let v801 : BitVec 32 := Scalar.remsi v800 c16_i32_609
  let c1_i32_612 : BitVec 32 := 1#32
  let v804 : BitVec 32 := Scalar.muli v801 c1_i32_612
  let v805 : BitVec 32 := Scalar.addi c0_i32_613 v804
  v805.toNat
def k0_dev32 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_616 : BitVec 32 := 2#32
  let v812 : BitVec 32 := Scalar.addi v2 c2_i32_616
  let c16_i32_617 : BitVec 32 := 16#32
  let v813 : BitVec 32 := Scalar.remsi v812 c16_i32_617
  let c1_i32_620 : BitVec 32 := 1#32
  let v816 : BitVec 32 := Scalar.muli v813 c1_i32_620
  let v817 : BitVec 32 := Scalar.addi c0_i32_621 v816
  v817.toNat
def k0_dev33 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_624 : BitVec 32 := 3#32
  let v824 : BitVec 32 := Scalar.addi v2 c3_i32_624
  let c16_i32_625 : BitVec 32 := 16#32
  let v825 : BitVec 32 := Scalar.remsi v824 c16_i32_625
  let c1_i32_628 : BitVec 32 := 1#32
  let v828 : BitVec 32 := Scalar.muli v825 c1_i32_628
  let v829 : BitVec 32 := Scalar.addi c0_i32_629 v828
  v829.toNat
def k0_dev34 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_632 : BitVec 32 := 4#32
  let v836 : BitVec 32 := Scalar.addi v2 c4_i32_632
  let c16_i32_633 : BitVec 32 := 16#32
  let v837 : BitVec 32 := Scalar.remsi v836 c16_i32_633
  let c1_i32_636 : BitVec 32 := 1#32
  let v840 : BitVec 32 := Scalar.muli v837 c1_i32_636
  let v841 : BitVec 32 := Scalar.addi c0_i32_637 v840
  v841.toNat
def k0_dev35 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_640 : BitVec 32 := 5#32
  let v848 : BitVec 32 := Scalar.addi v2 c5_i32_640
  let c16_i32_641 : BitVec 32 := 16#32
  let v849 : BitVec 32 := Scalar.remsi v848 c16_i32_641
  let c1_i32_644 : BitVec 32 := 1#32
  let v852 : BitVec 32 := Scalar.muli v849 c1_i32_644
  let v853 : BitVec 32 := Scalar.addi c0_i32_645 v852
  v853.toNat
def k0_dev36 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_648 : BitVec 32 := 6#32
  let v860 : BitVec 32 := Scalar.addi v2 c6_i32_648
  let c16_i32_649 : BitVec 32 := 16#32
  let v861 : BitVec 32 := Scalar.remsi v860 c16_i32_649
  let c1_i32_652 : BitVec 32 := 1#32
  let v864 : BitVec 32 := Scalar.muli v861 c1_i32_652
  let v865 : BitVec 32 := Scalar.addi c0_i32_653 v864
  v865.toNat
def k0_dev37 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_656 : BitVec 32 := 7#32
  let v872 : BitVec 32 := Scalar.addi v2 c7_i32_656
  let c16_i32_657 : BitVec 32 := 16#32
  let v873 : BitVec 32 := Scalar.remsi v872 c16_i32_657
  let c1_i32_660 : BitVec 32 := 1#32
  let v876 : BitVec 32 := Scalar.muli v873 c1_i32_660
  let v877 : BitVec 32 := Scalar.addi c0_i32_661 v876
  v877.toNat
def k0_dev38 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_664 : BitVec 32 := 8#32
  let v884 : BitVec 32 := Scalar.addi v2 c8_i32_664
  let c16_i32_665 : BitVec 32 := 16#32
  let v885 : BitVec 32 := Scalar.remsi v884 c16_i32_665
  let c1_i32_668 : BitVec 32 := 1#32
  let v888 : BitVec 32 := Scalar.muli v885 c1_i32_668
  let v889 : BitVec 32 := Scalar.addi c0_i32_669 v888
  v889.toNat
def k0_dev39 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_672 : BitVec 32 := 9#32
  let v896 : BitVec 32 := Scalar.addi v2 c9_i32_672
  let c16_i32_673 : BitVec 32 := 16#32
  let v897 : BitVec 32 := Scalar.remsi v896 c16_i32_673
  let c1_i32_676 : BitVec 32 := 1#32
  let v900 : BitVec 32 := Scalar.muli v897 c1_i32_676
  let v901 : BitVec 32 := Scalar.addi c0_i32_677 v900
  v901.toNat
def k0_dev40 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_680 : BitVec 32 := 10#32
  let v908 : BitVec 32 := Scalar.addi v2 c10_i32_680
  let c16_i32_681 : BitVec 32 := 16#32
  let v909 : BitVec 32 := Scalar.remsi v908 c16_i32_681
  let c1_i32_684 : BitVec 32 := 1#32
  let v912 : BitVec 32 := Scalar.muli v909 c1_i32_684
  let v913 : BitVec 32 := Scalar.addi c0_i32_685 v912
  v913.toNat
def k0_dev41 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_688 : BitVec 32 := 11#32
  let v920 : BitVec 32 := Scalar.addi v2 c11_i32_688
  let c16_i32_689 : BitVec 32 := 16#32
  let v921 : BitVec 32 := Scalar.remsi v920 c16_i32_689
  let c1_i32_692 : BitVec 32 := 1#32
  let v924 : BitVec 32 := Scalar.muli v921 c1_i32_692
  let v925 : BitVec 32 := Scalar.addi c0_i32_693 v924
  v925.toNat
def k0_dev42 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_696 : BitVec 32 := 12#32
  let v932 : BitVec 32 := Scalar.addi v2 c12_i32_696
  let c16_i32_697 : BitVec 32 := 16#32
  let v933 : BitVec 32 := Scalar.remsi v932 c16_i32_697
  let c1_i32_700 : BitVec 32 := 1#32
  let v936 : BitVec 32 := Scalar.muli v933 c1_i32_700
  let v937 : BitVec 32 := Scalar.addi c0_i32_701 v936
  v937.toNat
def k0_dev43 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_704 : BitVec 32 := 13#32
  let v944 : BitVec 32 := Scalar.addi v2 c13_i32_704
  let c16_i32_705 : BitVec 32 := 16#32
  let v945 : BitVec 32 := Scalar.remsi v944 c16_i32_705
  let c1_i32_708 : BitVec 32 := 1#32
  let v948 : BitVec 32 := Scalar.muli v945 c1_i32_708
  let v949 : BitVec 32 := Scalar.addi c0_i32_709 v948
  v949.toNat
def k0_dev44 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_712 : BitVec 32 := 14#32
  let v956 : BitVec 32 := Scalar.addi v2 c14_i32_712
  let c16_i32_713 : BitVec 32 := 16#32
  let v957 : BitVec 32 := Scalar.remsi v956 c16_i32_713
  let c1_i32_716 : BitVec 32 := 1#32
  let v960 : BitVec 32 := Scalar.muli v957 c1_i32_716
  let v961 : BitVec 32 := Scalar.addi c0_i32_717 v960
  v961.toNat
def k0_dev45 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_720 : BitVec 32 := 15#32
  let v968 : BitVec 32 := Scalar.addi v2 c15_i32_720
  let c16_i32_721 : BitVec 32 := 16#32
  let v969 : BitVec 32 := Scalar.remsi v968 c16_i32_721
  let c1_i32_724 : BitVec 32 := 1#32
  let v972 : BitVec 32 := Scalar.muli v969 c1_i32_724
  let v973 : BitVec 32 := Scalar.addi c0_i32_725 v972
  v973.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S2x256x4096 : Shape := ⟨3, ![2, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩
abbrev S512x512 : Shape := ⟨2, ![512, 512]⟩

abbrev nBuf : Space → Nat
  | .hbm => 58
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x4096, .f32⟩
  | .hbm, ⟨2, _⟩ => ⟨S2x256x64x64, .f32⟩
  | .hbm, ⟨3, _⟩ => ⟨S2x256x64x64, .f32⟩
  | .hbm, ⟨4, _⟩ => ⟨S4096x512, .f32⟩
  | .hbm, ⟨5, _⟩ => ⟨S2x256x4096, .f32⟩
  | .hbm, ⟨6, _⟩ => ⟨S2x256x64x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S2x64x256x256, .f32⟩
  | .hbm, ⟨19, _⟩ => ⟨S_, .f32⟩
  | .hbm, ⟨20, _⟩ => ⟨S2x64x256x256, .f32⟩
  | .hbm, ⟨21, _⟩ => ⟨S2x64x256x256, .f32⟩
  | .hbm, ⟨22, _⟩ => ⟨S1x1x256x256, .i1⟩
  | .hbm, ⟨23, _⟩ => ⟨S_, .f32⟩
  | .hbm, ⟨24, _⟩ => ⟨S_, .f32⟩
  | .hbm, ⟨25, _⟩ => ⟨S2x64x256x256, .i1⟩
  | .hbm, ⟨26, _⟩ => ⟨S2x64x256x256, .f32⟩
  | .hbm, ⟨27, _⟩ => ⟨S2x64x256x256, .f32⟩
  | .hbm, ⟨28, _⟩ => ⟨S_, .f32⟩
  | .hbm, ⟨29, _⟩ => ⟨S2x64x256, .f32⟩
  | .hbm, ⟨30, _⟩ => ⟨S2x64x256x1, .f32⟩
  | .hbm, ⟨31, _⟩ => ⟨S2x64x256x256, .f32⟩
  | .hbm, ⟨32, _⟩ => ⟨S2x64x256x256, .f32⟩
  | .hbm, ⟨33, _⟩ => ⟨S2x64x256x256, .f32⟩
  | .hbm, ⟨34, _⟩ => ⟨S_, .i1⟩
  | .hbm, ⟨35, _⟩ => ⟨S256, .i1⟩
  | .hbm, ⟨36, _⟩ => ⟨S1x1x256x1, .i1⟩
  | .hbm, ⟨37, _⟩ => ⟨S_, .f32⟩
  | .hbm, ⟨38, _⟩ => ⟨S2x64x256, .f32⟩
  | .hbm, ⟨39, _⟩ => ⟨S2x64x256x1, .f32⟩
  | .hbm, ⟨40, _⟩ => ⟨S_, .f32⟩
  | .hbm, ⟨41, _⟩ => ⟨S_, .f32⟩
  | .hbm, ⟨42, _⟩ => ⟨S2x64x256x1, .i1⟩
  | .hbm, ⟨43, _⟩ => ⟨S2x64x256x1, .f32⟩
  | .hbm, ⟨44, _⟩ => ⟨S2x64x256x1, .f32⟩
  | .hbm, ⟨45, _⟩ => ⟨S2x64x256x256, .f32⟩
  | .hbm, ⟨46, _⟩ => ⟨S2x64x256x256, .f32⟩
  | .hbm, ⟨47, _⟩ => ⟨S1x1x256x1, .i1⟩
  | .hbm, ⟨48, _⟩ => ⟨S_, .f32⟩
  | .hbm, ⟨49, _⟩ => ⟨S_, .f32⟩
  | .hbm, ⟨50, _⟩ => ⟨S2x64x256x256, .i1⟩
  | .hbm, ⟨51, _⟩ => ⟨S2x64x256x256, .f32⟩
  | .hbm, ⟨52, _⟩ => ⟨S2x64x256x256, .f32⟩
  | .hbm, ⟨53, _⟩ => ⟨S2x64x64x256, .f32⟩
  | .hbm, ⟨54, _⟩ => ⟨S2x256x64x64, .f32⟩
  | .hbm, ⟨55, _⟩ => ⟨S2x256x4096, .f32⟩
  | .hbm, ⟨56, _⟩ => ⟨S2x256x512, .f32⟩
  | .hbm, ⟨57, _⟩ => ⟨S512x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Contents.lean ====
/-
# Contents — what every buffer of the kernel holds, as functions of the launch memory

A device stages `x`, its heads of `K` and `V`, copies its columns of `Wq` and its rows of `Wo`, and computes its
partial product `accBuf` (512 rows of 512). Row block `t` of it goes to device `t`'s slot; a device then adds its own
row block and the fifteen landed ones (`redRows`), and every device collects the sixteen reduced row blocks (`outBuf`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of peers -/

/-- The device `j + 1` places after `c`: the `j`-th peer in the kernel's order. -/
def peer (c : Dev nD) (j : ℕ) : Dev nD := ⟨(c.val + j + 1) % 16, Nat.mod_lt _ (by show 0 < 16; decide)⟩

theorem peer_val (c : Dev nD) (j : ℕ) : (peer c j).val = (c.val + j + 1) % 16 := rfl

theorem peer_ne (c : Dev nD) {j : ℕ} (h : j < 15) : peer c j ≠ c := fun e => by
  have h1 := congrArg Fin.val e
  have h2 : c.val < 16 := c.isLt
  rw [peer_val] at h1; omega

theorem peer_inj (c : Dev nD) {i j : ℕ} (hi : i < 15) (hj : j < 15) (e : peer c i = peer c j) : i = j := by
  have h1 := congrArg Fin.val e
  have h2 : c.val < 16 := c.isLt
  rw [peer_val, peer_val] at h1; omega

theorem exists_peer (c t : Dev nD) (h : t ≠ c) : ∃ j, j < 15 ∧ peer c j = t := by
  have h1 : c.val < 16 := c.isLt
  have h2 : t.val < 16 := t.isLt
  have h3 : t.val ≠ c.val := fun e => h (Fin.ext e)
  exact ⟨(t.val + 15 - c.val) % 16, by omega, Fin.ext (by rw [peer_val]; omega)⟩

/-! ## The memrefs -/

abbrev xM : Memref sig .tc .vmem S2x256x512 .f32 := Memref.whole cc0_stg0_0
abbrev kM : Memref sig .tc .vmem S2x256x4x64 .f32 := Memref.whole cc0_stg1_0
abbrev vM : Memref sig .tc .vmem S2x256x4x64 .f32 := Memref.whole cc0_stg2_0
abbrev oM : Memref sig .tc .vmem S512x512 .f32 := Memref.whole cc0_stg3_0
abbrev wqM : Memref sig .tc .vmem S512x256 .f32 := Memref.whole cc0_scratch0
abbrev woM : Memref sig .tc .vmem S256x512 .f32 := Memref.whole cc0_scratch1
abbrev aM : Memref sig .tc .vmem S512x512 .f32 := Memref.whole cc0_scratch2
abbrev cM : Memref sig .tc .vmem S16x32x512 .f32 := Memref.whole cc0_scratch3
abbrev gqM : Memref sig .tc .hbm S512x4096 .f32 := Memref.whole main_arg1
abbrev goM : Memref sig .tc .hbm S4096x512 .f32 := Memref.whole main_arg4

/-! ## A device's operands -/

/-- The staged `x` of device `c`. -/
def xstg (c : Dev nD) : (cc0_stg0_0 : Ref sig .tc).ty.Contents (Elt F) :=
  (win0_0.blk (0 : Fin 1)).view.read (Elt F) (m ((c : Thread nD τ).loc main_arg0))
/-- The staged heads of `K`. -/
def kstg (c : Dev nD) : (cc0_stg1_0 : Ref sig .tc).ty.Contents (Elt F) :=
  (win0_1.blk (0 : Fin 1)).view.read (Elt F) (m ((c : Thread nD τ).loc main_arg2))
/-- The staged heads of `V`. -/
def vstg (c : Dev nD) : (cc0_stg2_0 : Ref sig .tc).ty.Contents (Elt F) :=
  (win0_2.blk (0 : Fin 1)).view.read (Elt F) (m ((c : Thread nD τ).loc main_arg3))

/-- Device `c`'s columns of `Wq`, in place. -/
abbrev gqRow (c : Dev nD) : Memref sig .tc .hbm S512x256 .f32 :=
  gqM.slice (Rect.unit (s := S512x4096) (k0_off1 c) S512x256.size (k0_off1_inb c)) (fun _ => rfl)
/-- Device `c`'s rows of `Wo`, in place. -/
abbrev goRow (c : Dev nD) : Memref sig .tc .hbm S256x512 .f32 :=
  goM.slice (Rect.unit (s := S4096x512) (k0_off2 c) S256x512.size (k0_off2_inb c)) (fun _ => rfl)

/-- Device `c`'s columns of `Wq`, copied. -/
def wqs (c : Dev nD) : (cc0_scratch0 : Ref sig .tc).ty.Contents (Elt F) :=
  (gqRow c).view.read (Elt F) (m ((c : Thread nD τ).loc main_arg1))
/-- Device `c`'s rows of `Wo`, copied. -/
def wos (c : Dev nD) : (cc0_scratch1 : Ref sig .tc).ty.Contents (Elt F) :=
  (goRow c).view.read (Elt F) (m ((c : Thread nD τ).loc main_arg4))

/-! ## The partial product, from any operands -/

section Acc

variable (X : (cc0_stg0_0 : Ref sig .tc).ty.Contents (Elt F)) (Kc : (cc0_stg1_0 : Ref sig .tc).ty.Contents (Elt F))
  (Vc : (cc0_stg2_0 : Ref sig .tc).ty.Contents (Elt F)) (Wq : (cc0_scratch0 : Ref sig .tc).ty.Contents (Elt F))
  (Wo : (cc0_scratch1 : Ref sig .tc).ty.Contents (Elt F))

def ldX0 : Vec F S1x256x512 .f32 := xM.view.readAt (Elt F) (Rect.unit (s := S2x256x512) ![0, 0, 0] S1x256x512.size inb_S2x256x512_S1x256x512_0_0_0).toLoadRect X
def ldX1 : Vec F S1x256x512 .f32 := xM.view.readAt (Elt F) (Rect.unit (s := S2x256x512) ![1, 0, 0] S1x256x512.size inb_S2x256x512_S1x256x512_1_0_0).toLoadRect X
def ldWq : Vec F S512x256 .f32 := wqM.view.readAt (Elt F) (Rect.unit (s := S512x256) ![0, 0] S512x256.size inb_S512x256_S512x256_0_0).toLoadRect Wq

def ldK00 : Vec F S1x256x1x64 .f32 := kM.view.readAt (Elt F) (Rect.unit (s := S2x256x4x64) ![0, 0, 0, 0] S1x256x1x64.size inb_S2x256x4x64_S1x256x1x64_0_0_0_0).toLoadRect Kc
def ldK01 : Vec F S1x256x1x64 .f32 := kM.view.readAt (Elt F) (Rect.unit (s := S2x256x4x64) ![0, 0, 1, 0] S1x256x1x64.size inb_S2x256x4x64_S1x256x1x64_0_0_1_0).toLoadRect Kc
def ldK02 : Vec F S1x256x1x64 .f32 := kM.view.readAt (Elt F) (Rect.unit (s := S2x256x4x64) ![0, 0, 2, 0] S1x256x1x64.size inb_S2x256x4x64_S1x256x1x64_0_0_2_0).toLoadRect Kc
def ldK03 : Vec F S1x256x1x64 .f32 := kM.view.readAt (Elt F) (Rect.unit (s := S2x256x4x64) ![0, 0, 3, 0] S1x256x1x64.size inb_S2x256x4x64_S1x256x1x64_0_0_3_0).toLoadRect Kc
def ldK10 : Vec F S1x256x1x64 .f32 := kM.view.readAt (Elt F) (Rect.unit (s := S2x256x4x64) ![1, 0, 0, 0] S1x256x1x64.size inb_S2x256x4x64_S1x256x1x64_1_0_0_0).toLoadRect Kc
def ldK11 : Vec F S1x256x1x64 .f32 := kM.view.readAt (Elt F) (Rect.unit (s := S2x256x4x64) ![1, 0, 1, 0] S1x256x1x64.size inb_S2x256x4x64_S1x256x1x64_1_0_1_0).toLoadRect Kc
def ldK12 : Vec F S1x256x1x64 .f32 := kM.view.readAt (Elt F) (Rect.unit (s := S2x256x4x64) ![1, 0, 2, 0] S1x256x1x64.size inb_S2x256x4x64_S1x256x1x64_1_0_2_0).toLoadRect Kc
def ldK13 : Vec F S1x256x1x64 .f32 := kM.view.readAt (Elt F) (Rect.unit (s := S2x256x4x64) ![1, 0, 3, 0] S1x256x1x64.size inb_S2x256x4x64_S1x256x1x64_1_0_3_0).toLoadRect Kc

def ldWo0 : Vec F S64x512 .f32 := woM.view.readAt (Elt F) (Rect.unit (s := S256x512) ![0, 0] S64x512.size inb_S256x512_S64x512_0_0).toLoadRect Wo
def ldWo1 : Vec F S64x512 .f32 := woM.view.readAt (Elt F) (Rect.unit (s := S256x512) ![64, 0] S64x512.size inb_S256x512_S64x512_64_0).toLoadRect Wo
def ldWo2 : Vec F S64x512 .f32 := woM.view.readAt (Elt F) (Rect.unit (s := S256x512) ![128, 0] S64x512.size inb_S256x512_S64x512_128_0).toLoadRect Wo
def ldWo3 : Vec F S64x512 .f32 := woM.view.readAt (Elt F) (Rect.unit (s := S256x512) ![192, 0] S64x512.size inb_S256x512_S64x512_192_0).toLoadRect Wo

/-! The first 256 rows, in the order the body computes them. -/

def q0 : FVec F S256x256 .f32 := k0_pay2 (ldX0 X) (ldWq Wq)
def c00 : FVec F S256x64 .f32 := k0_pay4 (ldX0 X) (ldWq Wq) (ldK00 Kc) (ldK00 Vc)
def s01 : FVec F S256x512 .f32 :=
  k0_pay5 k0_pay1 (q0 X Wq) k0_pay3 (c00 X Kc Vc Wq) (ldWo0 Wo) (ldK01 Kc) (ldK01 Vc) (ldWo1 Wo)
def s02 : FVec F S256x512 .f32 :=
  k0_pay8 k0_pay1 (s01 X Kc Vc Wq Wo) (k0_pay6 (ldK02 Vc)) (k0_pay7 (q0 X Wq) (ldK02 Kc)) (Scalar.ofBits .f32 0x3E000000#32) (ldWo2 Wo)
def accTop : FVec F S256x512 .f32 :=
  k0_pay10 (s02 X Kc Vc Wq Wo) (k0_pay9 k0_pay1 (q0 X Wq) (ldK03 Kc) (ldK03 Vc)) (ldWo3 Wo)

/-! The last 256 rows. -/

def q1 : FVec F S256x256 .f32 := k0_pay11 (ldX1 X) (ldWq Wq)
def s11 : FVec F S256x512 .f32 :=
  k0_pay14 k0_pay1 (q1 X Wq) k0_pay12 (k0_pay13 k0_pay1 (ldX1 X) (ldWq Wq) (ldK10 Kc) (ldK10 Vc)) (ldWo0 Wo)
    (constant S256x512 .f32 0x00000000#32) (ldK11 Kc) (ldK11 Vc) (ldWo1 Wo)
def s12 : FVec F S256x512 .f32 :=
  k0_pay17 k0_pay1 (s11 X Kc Vc Wq Wo) (k0_pay15 (ldK12 Vc)) (k0_pay16 (q1 X Wq) (ldK12 Kc)) (ldWo2 Wo)
def accBot : FVec F S256x512 .f32 :=
  k0_pay19 (s12 X Kc Vc Wq Wo) (k0_pay18 k0_pay1 (q1 X Wq) (ldK13 Kc) (ldK13 Vc)) (ldWo3 Wo) (constant S256x512 .f32 0x00000000#32)

end Acc

end Cert.KernelIdealProof

end
-- ==== Proof.Rows.lean ====
/-
# Rows — the row blocks and slots the exchange moves, and their contents

The partial product and the result are cut into sixteen row blocks of 32 rows, the landing buffer into sixteen slots of
one row block each. This module names the blocks and slots, shows that they cut their buffers into disjoint pieces that
cover, and says what each holds.
-/
module

public import proofs.«01_k».proof.Proof.Contents
public import Idealize.ShloMosaic.Lib.ViewIndex
public import Idealize.ShloMosaic.Lib.ValueIdx
public import Idealize.ShloMosaic.Lib.ValueIdxCoords

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The pieces -/

theorem row_inb (t : Dev nD) : ∀ a, (![32 * t.val, 0] : Fin 2 → ℕ) a + S32x512.size a ≤ S512x512.size a := by
  revert t; decide
theorem slot_inb (t : Dev nD) : ∀ a, (![t.val, 0, 0] : Fin 3 → ℕ) a + S1x32x512.size a ≤ S16x32x512.size a := by
  revert t; decide

abbrev rowRect (t : Dev nD) : Rect S512x512 := Rect.unit (s := S512x512) ![32 * t.val, 0] S32x512.size (row_inb t)
abbrev slotRect (t : Dev nD) : Rect S16x32x512 := Rect.unit (s := S16x32x512) ![t.val, 0, 0] S1x32x512.size (slot_inb t)

/-- Row block `t` of the partial product. -/
abbrev aRow (t : Dev nD) : Memref sig .tc .vmem S32x512 .f32 := aM.slice (rowRect t) (fun _ => rfl)
/-- Row block `t` of the result. -/
abbrev oRow (t : Dev nD) : Memref sig .tc .vmem S32x512 .f32 := oM.slice (rowRect t) (fun _ => rfl)
/-- Slot `t` of the landing buffer. -/
abbrev slot (t : Dev nD) : Memref sig .tc .vmem S32x512 .f32 := (cM.slice (slotRect t) (fun _ => rfl)).squeeze S32x512 squeezes_S1x32x512_S32x512

theorem mem_rowRect (t : Dev nD) (i : S512x512.Idx) : i ∈ (rowRect t).set ↔ (i 0).val / 32 = t.val := by
  have h0 : (i 0).val < 512 := (i 0).isLt
  have h1 : (i 1).val < 512 := (i 1).isLt
  rw [Rect.mem_set_unit]
  constructor
  · intro h
    have := h 0
    simp only [Matrix.cons_val_zero] at this
    have h2 : (S32x512.size 0 : ℕ) = 32 := rfl
    omega
  · intro h a
    match a with
    | ⟨0, _⟩ =>
      show 32 * t.val ≤ (i 0).val ∧ (i 0).val < 32 * t.val + 32
      omega
    | ⟨1, _⟩ =>
      show 0 ≤ (i 1).val ∧ (i 1).val < 0 + 512
      omega

theorem mem_slotRect (t : Dev nD) (i : S16x32x512.Idx) : i ∈ (slotRect t).set ↔ (i 0).val = t.val := by
  have h1 : (i 1).val < 32 := (i 1).isLt
  have h2 : (i 2).val < 512 := (i 2).isLt
  rw [Rect.mem_set_unit]
  constructor
  · intro h
    have := h 0
    simp only [Matrix.cons_val_zero] at this
    have h2 : (S1x32x512.size 0 : ℕ) = 1 := rfl
    omega
  · intro h a
    match a with
    | ⟨0, _⟩ =>
      show t.val ≤ (i 0).val ∧ (i 0).val < t.val + 1
      omega
    | ⟨1, _⟩ =>
      show 0 ≤ (i 1).val ∧ (i 1).val < 0 + 32
      omega
    | ⟨2, _⟩ =>
      show 0 ≤ (i 2).val ∧ (i 2).val < 0 + 512
      omega

theorem aRow_set (t : Dev nD) : (aRow t).view.set = (rowRect t).set := View.set_slice_whole cc0_scratch2 (rowRect t)
theorem oRow_set (t : Dev nD) : (oRow t).view.set = (rowRect t).set := View.set_slice_whole cc0_stg3_0 (rowRect t)
theorem slot_set (t : Dev nD) : (slot t).view.set = (slotRect t).set :=
  (View.set_reshape (((Memref.whole cc0_scratch3 : Memref sig .tc .vmem S16x32x512 .f32).slice (slotRect t) (fun _ => rfl)).view) _).trans
    (View.set_slice_whole cc0_scratch3 (slotRect t))

theorem rows_disjoint (t t' : Dev nD) (h : t ≠ t') : Disjoint (rowRect t).set (rowRect t').set :=
  Finset.disjoint_left.mpr fun i hi hi' => h (Fin.ext (((mem_rowRect t i).mp hi).symm.trans ((mem_rowRect t' i).mp hi')))
theorem slots_disjoint (t t' : Dev nD) (h : t ≠ t') : Disjoint (slotRect t).set (slotRect t').set :=
  Finset.disjoint_left.mpr fun i hi hi' => h (Fin.ext (((mem_slotRect t i).mp hi).symm.trans ((mem_slotRect t' i).mp hi')))

theorem rows_cover : (Finset.univ : Finset (Dev nD)).biUnion (fun t => (rowRect t).set) = Finset.univ := by
  ext i
  have h0 : (i 0).val < 512 := (i 0).isLt
  simp only [Finset.mem_biUnion, Finset.mem_univ, true_and, iff_true]
  exact ⟨⟨(i 0).val / 32, by show _ < 16; omega⟩, (mem_rowRect _ i).mpr rfl⟩
theorem slots_cover : (Finset.univ : Finset (Dev nD)).biUnion (fun t => (slotRect t).set) = Finset.univ := by
  ext i
  simp only [Finset.mem_biUnion, Finset.mem_univ, true_and, iff_true]
  exact ⟨⟨(i 0).val, (i 0).isLt⟩, (mem_slotRect _ i).mpr rfl⟩

/-! ## The contents -/

/-- Device `c`'s partial product, whole: the two halves of its rows. -/
def accBuf (c : Dev nD) : (cc0_scratch2 : Ref sig .tc).ty.Contents (Elt F) := fun i : S512x512.Idx =>
  if h : (i 0).val < 256 then accTop (xstg m c) (kstg m c) (vstg m c) (wqs m c) (wos m c) (ix2 ⟨(i 0).val, h⟩ (i 1))
  else accBot (xstg m c) (kstg m c) (vstg m c) (wqs m c) (wos m c)
    (ix2 ⟨(i 0).val - 256, by have h0 : (i 0).val < 512 := (i 0).isLt; omega⟩ (i 1))

/-- Device `c`'s landing buffer once every slot has landed: slot `q` holds row block `c` of device `q`'s partial product. -/
def commBuf (c : Dev nD) : (cc0_scratch3 : Ref sig .tc).ty.Contents (Elt F) := fun i : S16x32x512.Idx =>
  accBuf m ⟨(i 0).val, (i 0).isLt⟩
    (ix2 ⟨32 * c.val + (i 1).val, by have h1 : (i 1).val < 32 := (i 1).isLt; have h2 : c.val < 16 := c.isLt; omega⟩ (i 2) : S512x512.Idx)

/-- What device `c` reads of the landing slot the word `w` addresses. -/
def ldC (c : Dev nD) (r : Fin 15) : Vec F S1x32x512 .f32 :=
  cM.view.readAt (Elt F) (Rect.unit (s := S16x32x512) (k0_off9 c (BitVec.ofNat 32 (1 + r.val))) S1x32x512.size (k0_off9_inb c r)).toLoadRect (commBuf m c)
/-- What device `c` reads of its own row block of its partial product. -/
def ldA (c : Dev nD) : Vec F S32x512 .f32 :=
  aM.view.readAt (Elt F) (Rect.unit (s := S512x512) (k0_off7 c) S32x512.size (k0_off7_inb c)).toLoadRect (accBuf m c)

/-- Device `c`'s reduced row block: its own and the fifteen landed ones, added in the kernel's order. -/
def redRows (c : Dev nD) : Vec F S32x512 .f32 :=
  k0_pay28
    (k0_pay26
      (k0_pay25
        (k0_pay24
          (k0_pay23
            (k0_pay22 (k0_pay21 (k0_pay20 (ldA m c) (ldC m c 0)) (ldC m c 1) (ldC m c 2)) (ldC m c 3) (ldC m c 4))
            (ldC m c 5) (ldC m c 6) (ldC m c 7))
          (ldC m c 8) (ldC m c 9))
        (ldC m c 10) (ldC m c 11))
      (ldC m c 12) (ldC m c 13))
    (k0_pay27 (ldC m c 14))

/-- The result, whole, the same on every device: row block `t` is device `t`'s reduced row block. -/
def outBuf : (cc0_stg3_0 : Ref sig .tc).ty.Contents (Elt F) := fun i : S512x512.Idx =>
  redRows m ⟨(i 0).val / 32, by have h0 : (i 0).val < 512 := (i 0).isLt; show _ < 16; omega⟩
    (ix2 ⟨(i 0).val % 32, Nat.mod_lt _ (by decide)⟩ (i 1))

/-! ## What the landings and the stores leave -/

/-- The two stores of the partial product leave it whole, whatever the buffer held. -/
theorem stores_acc (c : Dev nD) (f : (cc0_scratch2 : Ref sig .tc).ty.Contents (Elt F)) :
    (aM.access (Rect.unit (s := S512x512) ![256, 0] S256x512.size inb_S512x512_S256x512_256_0)).write (Elt F)
      ((aM.access (Rect.unit (s := S512x512) ![0, 0] S256x512.size inb_S512x512_S256x512_0_0)).write (Elt F) f
        (accTop (xstg m c) (kstg m c) (vstg m c) (wqs m c) (wos m c)) Finset.univ)
      (accBot (xstg m c) (kstg m c) (vstg m c) (wqs m c) (wos m c)) Finset.univ = accBuf m c := by
  funext (i : S512x512.Idx)
  have h0 : (i 0).val < 512 := (i 0).isLt
  have h1 : (i 1).val < 512 := (i 1).isLt
  have hset : ∀ (o : ℕ) (ho), ∀ i : S512x512.Idx, i ∈ (aM.access (Rect.unit (s := S512x512) ![o, 0] S256x512.size ho)).setOn Finset.univ →
      o ≤ (i 0).val ∧ (i 0).val < o + 256 := by
    intro o ho i hi
    rw [View.setOn_univ] at hi
    have hi' : i ∈ (Rect.unit (s := S512x512) ![o, 0] S256x512.size ho).set := by
      rw [← View.set_slice_whole cc0_scratch2]; exact hi
    rw [Rect.mem_set_unit] at hi'
    exact hi' 0
  by_cases h : (i 0).val < 256
  · rw [View.write_of_not_mem _ _ _ (fun hi => by have := (hset 256 _ i hi).1; omega)]
    have e : i = (aM.access (Rect.unit (s := S512x512) ![0, 0] S256x512.size inb_S512x512_S256x512_0_0)).emb
        (ix2 ⟨(i 0).val, h⟩ (i 1) : S256x512.Idx) := by
      funext a
      match a with
      | ⟨0, _⟩ => exact Fin.ext (by show (i 0).val = 0 + 1 * (i 0).val; omega)
      | ⟨1, _⟩ => exact Fin.ext (by show (i 1).val = 0 + 1 * (i 1).val; omega)
    rw [show accBuf m c i = accTop (xstg m c) (kstg m c) (vstg m c) (wqs m c) (wos m c) (ix2 ⟨(i 0).val, h⟩ (i 1)) from dif_pos h]
    conv_lhs => rw [e]
    exact View.write_emb_of_mem _ _ (Finset.mem_univ _)
  · have e : i = (aM.access (Rect.unit (s := S512x512) ![256, 0] S256x512.size inb_S512x512_S256x512_256_0)).emb
        (ix2 ⟨(i 0).val - 256, by omega⟩ (i 1) : S256x512.Idx) := by
      funext a
      match a with
      | ⟨0, _⟩ => exact Fin.ext (by show (i 0).val = 256 + 1 * ((i 0).val - 256); omega)
      | ⟨1, _⟩ => exact Fin.ext (by show (i 1).val = 0 + 1 * (i 1).val; omega)
    rw [show accBuf m c i = accBot (xstg m c) (kstg m c) (vstg m c) (wqs m c) (wos m c) (ix2 ⟨(i 0).val - 256, by omega⟩ (i 1)) from dif_neg h]
    conv_lhs => rw [e]
    exact View.write_emb_of_mem _ _ (Finset.mem_univ _)

/-- Row block `t` of device `c`'s partial product, landed in slot `c`, is what device `t`'s landing buffer holds there. -/
theorem land_slot (c t : Dev nD) (fd : (cc0_scratch3 : Ref sig .tc).ty.Contents (Elt F)) :
    ∀ i ∈ (slot c).view.set,
      (slot c).view.write (Elt F) fd ((aRow t).view.read (Elt F) (accBuf m c)) Finset.univ i = commBuf m t i := by
  intro i hi
  obtain ⟨(j : S32x512.Idx), -, rfl⟩ := Finset.mem_map.mp hi
  rw [View.write_emb_of_mem _ _ (Finset.mem_univ _)]
  show accBuf m c ((rowRect t).emb j) = commBuf m t ((slotRect c).emb (Shape.reshapeEquiv _ j))
  have hj : (Shape.reshapeEquiv (squeezes_S1x32x512_S32x512).numel_eq j : S1x32x512.Idx) = Fin.cons ⟨0, Nat.one_pos⟩ j :=
    Shape.reshapeEquiv_cons_one _ j
  rw [hj]
  unfold commBuf
  have hc : (⟨(((slotRect c).emb (Fin.cons ⟨0, Nat.one_pos⟩ j) : S16x32x512.Idx) 0).val, Fin.isLt _⟩ : Dev nD) = c := Fin.ext (by
    show c.val + 1 * 0 = c.val
    omega)
  refine congr (congrArg (accBuf m) hc.symm) ?_
  · funext a
    match a with
    | ⟨0, _⟩ => exact Fin.ext (by show 32 * t.val + 1 * (j 0).val = 32 * t.val + (0 + 1 * (j 0).val); omega)
    | ⟨1, _⟩ => exact Fin.ext (by show 0 + 1 * (j 1).val = 0 + 1 * (j 1).val; rfl)

/-- A row block of the result, landed in the same row block of another device, is what that device's result holds there. -/
theorem land_row (c : Dev nD) (fd : (cc0_stg3_0 : Ref sig .tc).ty.Contents (Elt F)) :
    ∀ i ∈ (oRow c).view.set,
      (oRow c).view.write (Elt F) fd ((oRow c).view.read (Elt F) (outBuf m)) Finset.univ i = outBuf m i := by
  intro i hi
  obtain ⟨(j : S32x512.Idx), -, rfl⟩ := Finset.mem_map.mp hi
  rw [View.write_emb_of_mem _ _ (Finset.mem_univ _)]
  rfl

/-- Device `c`'s reduced row block, stored in its own row block, is what the result holds there. -/
theorem store_red (c : Dev nD) (fd : (cc0_stg3_0 : Ref sig .tc).ty.Contents (Elt F)) :
    ∀ i ∈ (oRow c).view.set,
      (oM.access (rowRect c)).write (Elt F) fd (redRows m c) Finset.univ i = outBuf m i := by
  intro i hi
  obtain ⟨(j : S32x512.Idx), -, rfl⟩ := Finset.mem_map.mp hi
  refine (View.write_emb_of_mem (v := oM.access (rowRect c)) (Val := Elt F) fd (redRows m c) (Finset.mem_univ j)).trans ?_
  have hj : (j 0).val < 32 := (j 0).isLt
  show redRows m c j = outBuf m ((rowRect c).emb j)
  unfold outBuf
  have e0 : (((rowRect c).emb j : S512x512.Idx) 0).val = 32 * c.val + 1 * (j 0).val := rfl
  congr 1
  · apply Fin.ext
    show c.val = (((rowRect c).emb j : S512x512.Idx) 0).val / 32
    omega
  · funext a
    match a with
    | ⟨0, _⟩ => exact Fin.ext (by show (j 0).val = (((rowRect c).emb j : S512x512.Idx) 0).val % 32; omega)
    | ⟨1, _⟩ => exact Fin.ext (by show (j 1).val = 0 + 1 * (j 1).val; omega)

end Cert.KernelIdealProof

end
-- ==== Proof.Protocol.lean ====
/-
# Protocol — the cells of the exchange, who pays each, with how much and with what

A device's cells: the runtime's barrier, and for each device `t` a send cell, a landing cell of the first exchange and one
of the second. The barrier of `c` has one duty per other device `d`, one unit, handing over `d`'s landing slot `c` and
`d`'s row block `c` of the result: what the two transfers from `c` to `d` write. Send cell `t` has two rounds, one per
transfer to `t`, returning what was read: row block `t` of the partial product, then a share of the row block `c` of the
result. Landing cell `q` of the first exchange hands over slot `q` holding row block `c` of `q`'s partial product, that
of the second hands over row block `q` of the result, reduced.
-/
module

public import proofs.«01_k».proof.Proof.Rows
public import Idealize.SL.BI.BigOpNat

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, duties named by the paying device,
with the counters of the copies a device makes within itself -/

abbrev UX : Type := URounds (GSem nD τ sig) (Dev nD)
abbrev UU : Type := UR sig nD τ × (UX × Counters)

local notation "𝕄" => MT nD τ sig Unit (Elt F) ℕ UU ℕ

variable (m : (ℓ : Loc nD τ sig) → Buf (Elt F) ℓ) (ρ : Dev nD → PrngReg)

abbrev EP : Emb (UR sig nD τ) (MT nD τ sig Unit (Elt F) ℕ UU ℕ) := embL
/-- The exchange's rounds library: the left half of the right factor. -/
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance ER_landsIn : (ER : Emb UX 𝕄).LandsIn (upEmb : UEmb _ 𝕄) := by unfold ER; infer_instance
/-- The counters of the copies a device makes within itself. -/
abbrev EC : UEmb Counters (MT nD τ sig Unit (Elt F) ℕ UU ℕ) := countersEmb

/-! ## The cells -/

abbrev barS : Sem sig := (SemArray.scalar (sig.barrier 0 rfl) : Sems sig S_).sem

/-- A device's cells: its barrier, and three families indexed by the other device: send, first landing, second landing. -/
abbrev CK : Type := Unit ⊕ (Fin 3 × Dev nD)

/-- The semaphore of family `j` for device `t`. -/
def dsem (j : Fin 3) (t : Dev nD) : DmaSem sig :=
  ⟨6 + 16 * j.val + t.val, by have h1 := j.isLt; have h2 : t.val < 16 := t.isLt; show _ < 54; omega⟩

def csem : CK → SemLoc sig
  | .inl _ => .reg barS
  | .inr (j, t) => .dma (dsem j t)

abbrev kcell (ck : Dev nD × CK) : GSem nD τ sig := ((ck.1 : Thread nD τ), csem ck.2)
abbrev barCell (c : Dev nD) : GSem nD τ sig := kcell (c, .inl ())
abbrev cell (j : Fin 3) (c t : Dev nD) : GSem nD τ sig := kcell (c, .inr (j, t))

/-- Which cell of the exchange a semaphore is. -/
def kindOf : SemLoc sig → Option CK
  | .reg s => if s = barS then some (.inl ()) else none
  | .dma i => if h : 6 ≤ i.val then
      some (.inr (⟨(i.val - 6) / 16, by have h1 : i.val < 54 := i.isLt; omega⟩, ⟨(i.val - 6) % 16, Nat.mod_lt _ (by show 0 < 16; decide)⟩))
    else none

theorem kindOf_csem (k : CK) : kindOf (csem k) = some k := by
  rcases k with ⟨⟩ | ⟨j, t⟩
  · show (if barS = barS then some (Sum.inl ()) else none : Option CK) = some (Sum.inl ())
    rw [if_pos rfl]
  · have h1 := j.isLt
    have h2 : t.val < 16 := t.isLt
    have h : 6 ≤ (dsem j t).val := by show 6 ≤ 6 + 16 * j.val + t.val; omega
    refine (dif_pos h).trans ?_
    refine congrArg some (congrArg Sum.inr (Prod.ext (Fin.ext ?_) (Fin.ext ?_)))
    · show (6 + 16 * j.val + t.val - 6) / 16 = j.val
      omega
    · show (6 + 16 * j.val + t.val - 6) % 16 = t.val
      omega

theorem csem_injective : Function.Injective csem := fun a b h =>
  Option.some.inj ((kindOf_csem a).symm.trans ((congrArg kindOf h).trans (kindOf_csem b)))
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of a row block. -/
abbrev N : ℕ := (aRow 0).view.dmaCredit
theorem N_pos : 0 < N := View.dmaCredit_pos _ (by decide)

/-! ## The pieces of memory handed over -/

/-- Row block `t` of device `c`'s partial product. -/
def aPts (c t : Dev nD) : sProp 𝕄 := (aRow t).view.loc (c : Thread nD τ) ↦[(aRow t).view.set]{fullShare} accBuf m c
/-- Landing slot `t` of device `d`, holding anything. -/
def slotAny (d t : Dev nD) : sProp 𝕄 :=
  iprop(∃ f : Buf (Elt F) ((slot t).view.loc (d : Thread nD τ)), (slot t).view.loc (d : Thread nD τ) ↦[(slot t).view.set]{fullShare} f)
/-- Landing slot `q` of device `c`, holding row block `c` of device `q`'s partial product. -/
def slotPts (c q : Dev nD) : sProp 𝕄 := (slot q).view.loc (c : Thread nD τ) ↦[(slot q).view.set]{fullShare} commBuf m c
/-- Row block `t` of the result of device `d`, holding anything. -/
def oAny (d t : Dev nD) : sProp 𝕄 :=
  iprop(∃ f : Buf (Elt F) ((oRow t).view.loc (d : Thread nD τ)), (oRow t).view.loc (d : Thread nD τ) ↦[(oRow t).view.set]{fullShare} f)
/-- Share `q` of row block `t` of the result of device `c`, reduced. -/
def oPts (q : PosShare TreeShare) (c t : Dev nD) : sProp 𝕄 := (oRow t).view.loc (c : Thread nD τ) ↦[(oRow t).view.set]{q} outBuf m

/-- What is left of a device's own row block after `k` transfers of it. -/
def remShare : ℕ → PosShare TreeShare
  | 0 => fullShare
  | k + 1 => (remShare k).right
/-- The share the `k`-th transfer reads. -/
def pieceShare (k : ℕ) : PosShare TreeShare := (remShare k).left

/-- The place of device `t` among the peers of `c`. -/
def peerIdx (c t : Dev nD) : ℕ := (t.val + 15 - c.val) % 16
theorem peerIdx_peer (c : Dev nD) {j : ℕ} (h : j < 15) : peerIdx c (peer c j) = j := by
  have h1 : c.val < 16 := c.isLt
  unfold peerIdx; rw [peer_val]; omega

omit [FloatOps F] in
instance slotAny_storable (d t : Dev nD) : BI.Storable (upEmb : UEmb _ 𝕄) (slotAny (F := F) d t) := by unfold slotAny; infer_instance
omit [FloatOps F] in
instance oAny_storable (d t : Dev nD) : BI.Storable (upEmb : UEmb _ 𝕄) (oAny (F := F) d t) := by unfold oAny; infer_instance
instance aPts_storable (c t : Dev nD) : BI.Storable (upEmb : UEmb _ 𝕄) (aPts (F := F) m c t) := by unfold aPts; infer_instance
instance slotPts_storable (c t : Dev nD) : BI.Storable (upEmb : UEmb _ 𝕄) (slotPts (F := F) m c t) := by unfold slotPts; infer_instance
instance oPts_storable (q) (c t : Dev nD) : BI.Storable (upEmb : UEmb _ 𝕄) (oPts (F := F) m q c t) := by unfold oPts; infer_instance

/-! ## The schedule -/

def dutyK (c : Dev nD) (k : CK) (r : ℕ) : Finset (Dev nD) := match k with
  | .inl _ => if r = 0 then Finset.univ.erase c else ∅
  | .inr (j, t) => if t = c then ∅ else if j = 0 then (if r < 2 then {c} else ∅) else (if r = 0 then {t} else ∅)

def payK (c : Dev nD) (k : CK) (r : ℕ) (d : Dev nD) : sProp 𝕄 := match k with
  | .inl _ => iprop(slotAny d c ∗ oAny d c)
  | .inr (j, t) =>
    if j = 0 then (if r = 0 then aPts m c t else oPts m (pieceShare (peerIdx c t)) c c)
    else if j = 1 then slotPts m c t
    else oPts m fullShare c t

instance payK_storable (c : Dev nD) (k : CK) (r : ℕ) (d : Dev nD) : BI.Storable (upEmb : UEmb _ 𝕄) (payK (F := F) m c k r d) := by
  rcases k with ⟨⟩ | ⟨j, t⟩
  · show BI.Storable upEmb iprop(slotAny d c ∗ oAny d c)
    infer_instance
  · show BI.Storable upEmb (if j = 0 then (if r = 0 then aPts m c t else oPts m (pieceShare (peerIdx c t)) c c)
      else if j = 1 then slotPts m c t else oPts m fullShare c t)
    (repeat' split) <;> infer_instance

/-- The exchange's schedule. -/
def Rd : Rounds.Schedule (GSem nD τ sig) (Dev nD) 𝕄 where
  duties g r := if g.1.2 = .tc then (match kindOf g.2 with | none => ∅ | some k => dutyK g.1.1 k r) else ∅
  unitless _ := False
  amount g _ _ := match kindOf g.2 with | some (.inl _) => 1 | _ => N
  payload g r d := match kindOf g.2 with | none => iprop(emp) | some k => payK m g.1.1 k r d
  amount_pos g _ _ _ := by
    split
    · exact Nat.one_pos
    · exact N_pos

instance Rd_payload_storable (g : GSem nD τ sig) (r : ℕ) (d : Dev nD) : BI.Storable (upEmb : UEmb _ 𝕄) ((Rd (F := F) m).payload g r d) := by
  show BI.Storable upEmb (match kindOf g.2 with | none => iprop(emp) | some k => payK m g.1.1 k r d)
  split <;> infer_instance

theorem duties_eq (c : Dev nD) (k : CK) (r : ℕ) : (Rd (F := F) m).duties (kcell (c, k)) r = dutyK c k r := by
  dsimp only [Rd]; rw [if_pos rfl, kindOf_csem]
theorem payload_eq (c : Dev nD) (k : CK) (r : ℕ) (d : Dev nD) : (Rd (F := F) m).payload (kcell (c, k)) r d = payK m c k r d := by
  dsimp only [Rd]; rw [kindOf_csem]
theorem amount_bar (c : Dev nD) (r : ℕ) (d : Dev nD) : (Rd (F := F) m).amount (barCell c) r d = 1 := by
  dsimp only [Rd]; rw [kindOf_csem]
theorem amount_cell (j : Fin 3) (c t : Dev nD) (r : ℕ) (d : Dev nD) : (Rd (F := F) m).amount (cell j c t) r d = N := by
  dsimp only [Rd]; rw [kindOf_csem]

theorem duties_bar (c : Dev nD) : (Rd (F := F) m).duties (barCell c) 0 = Finset.univ.erase c := by
  rw [duties_eq]; simp [dutyK]
theorem duties_send (c : Dev nD) {t : Dev nD} (h : t ≠ c) {r : ℕ} (hr : r < 2) : (Rd (F := F) m).duties (cell 0 c t) r = {c} :=
  (duties_eq m c _ r).trans ((if_neg h).trans ((if_pos rfl).trans (if_pos hr)))
theorem duties_land (c : Dev nD) {t : Dev nD} (h : t ≠ c) {j : Fin 3} (hj : j ≠ 0) : (Rd (F := F) m).duties (cell j c t) 0 = {t} :=
  (duties_eq m c _ 0).trans ((if_neg h).trans ((if_neg hj).trans (if_pos rfl)))

/-- From which round on a cell has no duty. -/
def lastK (c : Dev nD) : CK → ℕ
  | .inl _ => 1
  | .inr (j, t) => if t = c then 0 else if j = 0 then 2 else 1

theorem duties_last (c : Dev nD) (k : CK) : ∀ r, lastK c k ≤ r → (Rd (F := F) m).duties (kcell (c, k)) r = ∅ := by
  intro r hr
  rw [duties_eq]
  rcases k with ⟨⟩ | ⟨j, t⟩
  · have : 1 ≤ r := hr
    exact if_neg (by omega)
  · unfold lastK at hr
    dsimp only at hr
    show (if t = c then ∅ else if j = 0 then (if r < 2 then {c} else ∅) else (if r = 0 then {t} else ∅)) = (∅ : Finset (Dev nD))
    by_cases h : t = c
    · rw [if_pos h]
    · rw [if_neg h] at hr ⊢
      by_cases h0 : j = 0
      · rw [if_pos h0] at hr ⊢; exact if_neg (by omega)
      · rw [if_neg h0] at hr ⊢; exact if_neg (by omega)

theorem expect_bar (c : Dev nD) : (Rd (F := F) m).expect (barCell c) 0 = 15 := by
  unfold Schedule.expect Schedule.amountOf
  rw [duties_bar, Finset.sum_congr rfl fun d _ => amount_bar m c 0 d, Finset.sum_const, Finset.card_erase_of_mem (Finset.mem_univ c),
    Finset.card_univ, Fintype.card_fin]
  rfl
theorem expect_send (c : Dev nD) {t : Dev nD} (h : t ≠ c) {r : ℕ} (hr : r < 2) : (Rd (F := F) m).expect (cell 0 c t) r = N := by
  unfold Schedule.expect Schedule.amountOf; rw [duties_send m c h hr, Finset.sum_singleton, amount_cell]
theorem expect_land (c : Dev nD) {t : Dev nD} (h : t ≠ c) {j : Fin 3} (hj : j ≠ 0) : (Rd (F := F) m).expect (cell j c t) 0 = N := by
  unfold Schedule.expect Schedule.amountOf; rw [duties_land m c h hj, Finset.sum_singleton, amount_cell]

/-- What the barrier's round hands over: from each other device, its landing slot `c` and its row block `c` of the result. -/
theorem rest_bar (c : Dev nD) : bigSep ((Rd (F := F) m).duties (barCell c) 0 \ ∅) (fun d => (Rd (F := F) m).payload (barCell c) 0 d)
    = bigSep (Finset.univ.erase c) (fun d => iprop(slotAny (F := F) d c ∗ oAny d c)) := by
  rw [Finset.sdiff_empty, duties_bar]
  exact bigSep_congr fun d _ => payload_eq m c _ 0 d
theorem rest_send0 (c : Dev nD) {t : Dev nD} (h : t ≠ c) :
    bigSep ((Rd (F := F) m).duties (cell 0 c t) 0 \ ∅) (fun d => (Rd (F := F) m).payload (cell 0 c t) 0 d) = aPts m c t := by
  rw [Finset.sdiff_empty, duties_send m c h (by decide), bigSep_singleton, payload_eq]; rfl
theorem rest_send1 (c : Dev nD) {t : Dev nD} (h : t ≠ c) :
    bigSep ((Rd (F := F) m).duties (cell 0 c t) 1 \ ∅) (fun d => (Rd (F := F) m).payload (cell 0 c t) 1 d)
      = oPts m (pieceShare (peerIdx c t)) c c := by
  rw [Finset.sdiff_empty, duties_send m c h (by decide), bigSep_singleton, payload_eq]; rfl
theorem rest_rs (c : Dev nD) {t : Dev nD} (h : t ≠ c) :
    bigSep ((Rd (F := F) m).duties (cell 1 c t) 0 \ ∅) (fun d => (Rd (F := F) m).payload (cell 1 c t) 0 d) = slotPts m c t := by
  rw [Finset.sdiff_empty, duties_land m c h (by decide), bigSep_singleton, payload_eq]; rfl
theorem rest_ag (c : Dev nD) {t : Dev nD} (h : t ≠ c) :
    bigSep ((Rd (F := F) m).duties (cell 2 c t) 0 \ ∅) (fun d => (Rd (F := F) m).payload (cell 2 c t) 0 d) = oPts m fullShare c t := by
  rw [Finset.sdiff_empty, duties_land m c h (by decide), bigSep_singleton, payload_eq]; rfl

/-! ## What a device owes; the levels -/

/-- What device `c` owes after `i` signals, `j` transfers of the first exchange and `l` of the second. -/
def Ow (c : Dev nD) (i j l : ℕ) : CellTallies nD τ sig Unit :=
  (∑ a ∈ Finset.Ico i 15, tallyAt (barCell (peer c a)) () 1) + (∑ a ∈ Finset.Ico j 15, tallyAt (cell 1 (peer c a) c) () N)
    + ∑ a ∈ Finset.Ico l 15, tallyAt (cell 2 (peer c a) c) () N

theorem Ow_bar (c : Dev nD) {i : ℕ} (h : i < 15) (j l : ℕ) : Ow c i j l = Ow c (i + 1) j l + tallyAt (barCell (peer c i)) () 1 := by
  unfold Ow; rw [Finset.sum_eq_sum_Ico_succ_bot h]; abel
theorem Ow_rs (c : Dev nD) (i : ℕ) {j : ℕ} (h : j < 15) (l : ℕ) : Ow c i j l = Ow c i (j + 1) l + tallyAt (cell 1 (peer c j) c) () N := by
  unfold Ow; rw [Finset.sum_eq_sum_Ico_succ_bot (f := fun a => tallyAt (cell 1 (peer c a) c) () N) h]; abel
theorem Ow_ag (c : Dev nD) (i j : ℕ) {l : ℕ} (h : l < 15) : Ow c i j l = Ow c i j (l + 1) + tallyAt (cell 2 (peer c l) c) () N := by
  unfold Ow; rw [Finset.sum_eq_sum_Ico_succ_bot (f := fun a => tallyAt (cell 2 (peer c a) c) () N) h]; abel
theorem Ow_done (c : Dev nD) : Ow c 15 15 15 = 0 := by unfold Ow; simp

abbrev O₀ (c : Dev nD) : CellTallies nD τ sig Unit := Ow c 0 0 0

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barriers at 1, the first exchange's landings at 2, the second's at 3, everything else at 0. -/
def levK : CK → ℕ
  | .inl _ => 1
  | .inr (j, _) => if j = 0 then 0 else j.val + 1
def lv (g : GSem nD τ sig) (_ : Unit) : ℕ := match kindOf g.2 with | none => 0 | some k => levK k
theorem lv_kcell (c : Dev nD) (k : CK) (u : Unit) : lv (kcell (c, k)) u = levK k := by
  unfold lv; rw [kindOf_csem]

theorem sum_tally_pos {S : Finset ℕ} {f : ℕ → GSem nD τ sig} {n : ℕ} {g : GSem nD τ sig} {u : Unit}
    (h : 0 < (∑ a ∈ S, (tallyAt (f a) () n : CellTallies nD τ sig Unit)) g u) : ∃ a ∈ S, g = f a := by
  by_contra hn
  have h0 : (∑ a ∈ S, (tallyAt (f a) () n : CellTallies nD τ sig Unit)) g u = 0 := by
    rw [Finset.sum_apply, Finsupp.finset_sum_apply]
    refine Finset.sum_eq_zero fun a ha => ?_
    rw [tallyAt_apply, if_neg (fun h' => hn ⟨a, ha, h'.1⟩)]
  omega

theorem Ow_pos {c : Dev nD} {i j l : ℕ} {g : GSem nD τ sig} {u : Unit} (h : 0 < Ow c i j l g u) :
    (∃ a ∈ Finset.Ico i 15, g = barCell (peer c a)) ∨ (∃ a ∈ Finset.Ico j 15, g = cell 1 (peer c a) c)
      ∨ ∃ a ∈ Finset.Ico l 15, g = cell 2 (peer c a) c := by
  unfold Ow at h
  rw [Pi.add_apply, Finsupp.add_apply, Pi.add_apply, Finsupp.add_apply] at h
  by_contra hn
  rw [not_or, not_or] at hn
  have h1 : (∑ a ∈ Finset.Ico i 15, tallyAt (barCell (peer c a)) () 1 : CellTallies nD τ sig Unit) g u = 0 :=
    Nat.eq_zero_of_not_pos fun h' => hn.1 (sum_tally_pos h')
  have h2 : (∑ a ∈ Finset.Ico j 15, tallyAt (cell 1 (peer c a) c) () N : CellTallies nD τ sig Unit) g u = 0 :=
    Nat.eq_zero_of_not_pos fun h' => hn.2.1 (sum_tally_pos h')
  have h3 : (∑ a ∈ Finset.Ico l 15, tallyAt (cell 2 (peer c a) c) () N : CellTallies nD τ sig Unit) g u = 0 :=
    Nat.eq_zero_of_not_pos fun h' => hn.2.2 (sum_tally_pos h')
  omega

omit [FloatOps F] in
/-- A device may wait on a semaphore whose level is below that of everything it still owes. -/
theorem mayWait_of (c : Dev nD) (sm : SemLoc sig) (i j l : ℕ) (b : ℕ) (hb : lv ((c : Thread nD τ), sm) () ≤ b)
    (h1 : i < 15 → b < 1) (h2 : j < 15 → b < 2) (h3 : l < 15 → b < 3) :
    (levAts L lv : sProp 𝕄) ⊢ MayWait (c : Thread nD τ) sm () (Ow c i j l) := by
  refine MayOwe.of_cut (L := L) (lev := lv) b (fun p hp => by rw [Finset.mem_singleton.mp hp, L_tc]; exact Finset.mem_singleton_self _)
    (fun g u hg => ?_) (fun p hp => by rw [Finset.mem_singleton.mp hp]; exact hb) (fun g u hg => ?_)
  · rcases Ow_pos hg with ⟨a, _, rfl⟩ | ⟨a, _, rfl⟩ | ⟨a, _, rfl⟩ <;> exact Finset.mem_singleton_self _
  · rcases Ow_pos hg with ⟨a, ha, rfl⟩ | ⟨a, ha, rfl⟩ | ⟨a, ha, rfl⟩ <;> have ha' := Finset.mem_Ico.mp ha <;> rw [lv_kcell]
    · exact h1 (by omega)
    · exact h2 (by omega)
    · exact h3 (by omega)

omit [FloatOps F] in
/-- A device may wait on the staging and local-copy semaphores whatever it owes. -/
theorem mayWait_low (c : Dev nD) (q : DmaSem sig) (hq : q.val < 6) (i j l : ℕ) :
    (levAts L lv : sProp 𝕄) ⊢ MayWait (c : Thread nD τ) (.dma q) () (Ow c i j l) :=
  mayWait_of c _ i j l 0 (by
    unfold lv
    rw [show kindOf (SemLoc.dma q) = none from dif_neg (by omega)]) (fun _ => by decide) (fun _ => by decide) (fun _ => by decide)

/-! ## The cells' records -/

/-- What every device knows: the cells' invariants under the names `K`, every cell's round 0 reached, the levels. -/
def records (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ (levAts L lv : sProp 𝕄))

instance records_persistent (K : Dev nD × CK → ℕ) : BI.Persistent (records (F := F) m K) := by unfold records; infer_instance

theorem records_inv (K : Dev nD × CK → ℕ) (ck : Dev nD × CK) : records (F := F) m K ⊢ cellInv ER (Rd m) (K ck) (kcell ck) := by
  unfold records
  iintro ⟨H, -, -⟩
  have h : (bigSep Finset.univ fun ck : Dev nD × CK => (cellInv ER (Rd m) (K ck) (kcell ck) : sProp 𝕄)) ⊢ cellInv ER (Rd m) (K ck) (kcell ck) :=
    bigSep_elim (Finset.mem_univ ck)
  iapply h
  iexact H
theorem records_reached (K : Dev nD × CK → ℕ) (ck : Dev nD × CK) : records (F := F) m K ⊢ reached ER (kcell ck) 0 := by
  unfold records
  iintro ⟨-, H, -⟩
  have h : (bigSep Finset.univ fun ck : Dev nD × CK => (reached ER (kcell ck) 0 : sProp 𝕄)) ⊢ reached ER (kcell ck) 0 :=
    bigSep_elim (Finset.mem_univ ck)
  iapply h
  iexact H
/-- The records allow a wait below everything still owed. -/
theorem records_mayWait (K : Dev nD × CK → ℕ) (c : Dev nD) (sm : SemLoc sig) (i j l : ℕ) (b : ℕ) (hb : lv ((c : Thread nD τ), sm) () ≤ b)
    (h1 : i < 15 → b < 1) (h2 : j < 15 → b < 2) (h3 : l < 15 → b < 3) :
    records (F := F) m K ⊢ MayWait (c : Thread nD τ) sm () (Ow c i j l) := by
  have h := mayWait_of (F := F) c sm i j l b hb h1 h2 h3
  unfold records
  iintro ⟨-, -, H⟩
  iapply h
  iexact H
theorem records_mayWait_low (K : Dev nD × CK → ℕ) (c : Dev nD) (q : DmaSem sig) (hq : q.val < 6) (i j l : ℕ) :
    records (F := F) m K ⊢ MayWait (c : Thread nD τ) (.dma q) () (Ow c i j l) := by
  have h := mayWait_low (F := F) c q hq i j l
  unfold records
  iintro ⟨-, -, H⟩
  iapply h
  iexact H

abbrev 𝒱₀ : Variants := Variants.none

end Cert.KernelIdealProof

end
-- ==== Proof.Steps.lean ====
/-
# Steps — one effect of the exchange, from the state before it to the state after it

A device's state is a conjunction of families over its fifteen peers, in the order the body visits them: what the
transfers still to issue consume, and what those issued have left. Each lemma takes one effect's program, the device, buffers and
semaphores it names known up to equations, from its state to the next, beside any frame.
-/
module

public import proofs.«01_k».proof.Proof.Protocol
public import Idealize.SL.BI.BigOpNat

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The states of a device between two effects -/

section States

omit [FloatOps F]

/-- A device's account of the units it owes, whatever it has waited for. -/
def owesAny (c : Dev nD) (O : CellTallies nD τ sig Unit) : sProp 𝕄 := iprop(∃ W : Waits sig Unit, owes (c : Thread nD τ) O W)

/-- What the signal to peer `a` consumes: its token, and the two buffers the peer will write here. -/
def famA (c : Dev nD) (a : ℕ) : sProp 𝕄 :=
  iprop(dutyTok ER (barCell (peer c a)) 0 c ∗ slotAny c (peer c a) ∗ oAny c (peer c a))
/-- Units still in flight towards cell `a` of family `j`, at its round `r`. -/
def famW (j : Fin 3) (r : ℕ) (c : Dev nD) (a : ℕ) : sProp 𝕄 :=
  iprop(cred (tallyAt (cell j c (peer c a)) () N) ∗ atPos ER (cell j c (peer c a)) r ∅ 0)
/-- Cell `a` of family `j` past its round `r`. -/
def pastW (j : Fin 3) (r : ℕ) (c : Dev nD) (a : ℕ) : sProp 𝕄 :=
  iprop(atPos ER (cell j c (peer c a)) (r + 1) ∅ 0 ∗ reached ER (cell j c (peer c a)) (r + 1))
/-- The credit a transfer to peer `a` leaves its sender. -/
def credS (c : Dev nD) (a : ℕ) : sProp 𝕄 := cred (tallyAt (cell 0 c (peer c a)) () N)
/-- What the second transfer to peer `a` consumes, its source aside. -/
def famE (c : Dev nD) (a : ℕ) : sProp 𝕄 :=
  iprop(reached ER (cell 0 c (peer c a)) 1 ∗ dutyTok ER (cell 0 c (peer c a)) 1 c ∗ dutyTok ER (cell 2 (peer c a) c) 0 c ∗ oAny (peer c a) c)

end States

/-- What the first transfer to peer `a` consumes. -/
def famB (c : Dev nD) (a : ℕ) : sProp 𝕄 :=
  iprop(aPts m c (peer c a) ∗ slotAny (peer c a) c ∗ dutyTok ER (cell 0 c (peer c a)) 0 c ∗ dutyTok ER (cell 1 (peer c a) c) 0 c)

variable (K : Dev nD × CK → ℕ)

/-- After `k` signals. -/
def stA (c : Dev nD) (k : ℕ) : sProp 𝕄 :=
  iprop(records m K ∗ owesAny c (Ow c k 0 0) ∗ bigSep (Finset.Ico k 15) (famA c))
/-- After `k` transfers of the first exchange. -/
def stB (c : Dev nD) (k : ℕ) : sProp 𝕄 :=
  iprop(records m K ∗ owesAny c (Ow c 15 k 0) ∗ bigSep (Finset.Ico k 15) (famB m c) ∗ bigSep (Finset.range k) (credS c))
/-- After `k` waits on the cells of family `j` at round `r`, owing `Ow c 15 15 l`, each wait having handed over `X`. -/
def stW (l : ℕ) (j : Fin 3) (r : ℕ) (X : ℕ → sProp 𝕄) (c : Dev nD) (k : ℕ) : sProp 𝕄 :=
  iprop(records m K ∗ owesAny c (Ow c 15 15 l) ∗ bigSep (Finset.Ico k 15) (famW j r c)
    ∗ bigSep (Finset.range k) X ∗ bigSep (Finset.range k) (pastW j r c))
/-- After `k` transfers of the second exchange. -/
def stE (c : Dev nD) (k : ℕ) : sProp 𝕄 :=
  iprop(records m K ∗ owesAny c (Ow c 15 15 k) ∗ oPts m (remShare k) c c ∗ bigSep (Finset.Ico k 15) (famE c)
    ∗ bigSep (Finset.range k) (credS c))

/-- After `k` landings of the first exchange. -/
abbrev stC (c : Dev nD) (k : ℕ) : sProp 𝕄 := stW m K 0 1 0 (fun a => slotPts m c (peer c a)) c k
/-- After `k` returns of the first exchange's transfers. -/
abbrev stD (c : Dev nD) (k : ℕ) : sProp 𝕄 := stW m K 0 0 0 (fun a => aPts m c (peer c a)) c k
/-- After `k` landings of the second exchange. -/
abbrev stF (c : Dev nD) (k : ℕ) : sProp 𝕄 := stW m K 15 2 0 (fun a => oPts m fullShare c (peer c a)) c k
/-- After `k` returns of the second exchange's transfers. -/
abbrev stG (c : Dev nD) (k : ℕ) : sProp 𝕄 := stW m K 15 0 1 (fun a => oPts m (pieceShare a) c c) c k

/-! ## One effect -/

omit [FloatOps F] in
theorem lv_bar (c : Dev nD) : lv (barCell c) () ≤ 1 := by rw [lv_kcell]; exact le_refl 1
theorem mem_duties_bar (c : Dev nD) {k : ℕ} (hk : k < 15) : c ∈ (Rd (F := F) m).duties (barCell (peer c k)) 0 := by
  rw [duties_bar]; exact Finset.mem_erase.mpr ⟨(peer_ne c hk).symm, Finset.mem_univ _⟩
theorem pay_bar (c d : Dev nD) : iprop(slotAny (F := F) c d ∗ oAny c d) ⊢ (Rd (F := F) m).payload ((d : Thread nD τ), .reg barS) 0 c :=
  Entails.of_eq (payload_eq m d (.inl ()) 0 c).symm
theorem rest_bar_reg (c : Dev nD) :
    bigSep ((Rd (F := F) m).duties ((c : Thread nD τ), .reg barS) 0 \ ∅) (fun d => (Rd (F := F) m).payload ((c : Thread nD τ), .reg barS) 0 d)
      ⊢ bigSep (Finset.univ.erase c) (fun d => iprop(slotAny (F := F) d c ∗ oAny d c)) := Entails.of_eq (rest_bar m c)
theorem mayWait_bar (c : Dev nD) : records m K ⊢ MayWait (c : Thread nD τ) (.reg barS) () (Ow c 15 0 0) :=
  records_mayWait m K c (.reg barS) 15 0 0 1 (lv_bar c) (fun h => absurd h (by decide)) (fun _ => by decide) (fun _ => by decide)

/-- A device's program proved at its own thread. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The signal to peer `k`. -/
theorem step_signal {α : Type} {R : sProp 𝕄} {Q : α → sProp 𝕄} {kont : PUnit → Prog (TpuEff nD τ sig (Elt F) Λ₀ .tc) α}
    (c n : Dev nD) {k : ℕ} (hk : k < 15) (hn : n = peer c k) {z : ℤ} (hz : z = ((1 : ℕ) : ℤ)) {sm : Sem sig} (hs : sm = barS)
    (h : iprop(stA m K c (k + 1) ∗ R) ⊢ WP c (kont ⟨⟩) Q) :
    iprop(stA m K c k ∗ R) ⊢ WP c (.op (.semSignal (n : Thread nD τ) sm z) kont) Q := by
  subst hn hz hs
  unfold stA owesAny
  rw [bigSep_Ico_succ_bot hk (famA (F := F) c)]
  iintro ⟨⟨#Hrec, ⟨%W, HO⟩, HA, Hrest⟩, HR⟩
  unfold famA
  icases HA with ⟨Ht, Hs, Ho⟩
  iapply (Rounds.wp_signal 𝒱₀ ER (Rd m) (c : Thread nD τ) none (dst := (peer c k : Thread nD τ)) (κ := K (peer c k, .inl ()))
      (d := c) (r := 0) (mem_duties_bar m c hk) (amount_bar m (peer c k) 0 c) ()
      (Ow c (k + 1) 0 0) (Ow_bar c hk 0 0)) $$ [HO Ht Hs Ho]
  · isplitr; · iapply (records_inv m K (peer c k, .inl ())); iexact Hrec
    isplitl [HO]; · iexact HO
    isplitl [Ht]; · iexact Ht
    isplitl [Hs Ho]
    · iapply (pay_bar m c (peer c k))
      isplitl [Hs] <;> iassumption
    iapply (records_reached m K (peer c k, .inl ())); iexact Hrec
  iintro HO
  iapply h
  unfold stA owesAny
  isplitr [HR]
  · isplitr; · iexact Hrec
    isplitl [HO]; · iexists W; iexact HO
    unfold famA
    iexact Hrest
  iexact HR

/-- The wait on the device's own barrier for its fifteen units. -/
theorem step_barrier {α : Type} {R : sProp 𝕄} {Q : α → sProp 𝕄} {kont : PUnit → Prog (TpuEff nD τ sig (Elt F) Λ₀ .tc) α}
    (c : Dev nD) {z : ℤ} (hz : z = ((15 : ℕ) : ℤ)) {sm : Sem sig} (hs : sm = barS)
    (h : iprop((records m K ∗ owesAny c (Ow c 15 0 0) ∗ atPos ER (barCell c) 1 ∅ 0
      ∗ bigSep (Finset.univ.erase c) (fun d => iprop(slotAny (F := F) d c ∗ oAny d c))) ∗ R) ⊢ WP c (kont ⟨⟩) Q) :
    iprop((stA m K c 15 ∗ cred (tallyAt (barCell c) () 15) ∗ atPos ER (barCell c) 0 ∅ 0) ∗ R) ⊢ WP c (.op (.semWait sm z) kont) Q := by
  subst hz hs
  have hM : records m K ⊢ MayWait (c : Thread nD τ) (.reg barS) () (Ow c 15 0 0) := mayWait_bar m K c
  unfold stA owesAny
  iintro ⟨⟨⟨#Hrec, ⟨%W, HO⟩, -⟩, HcB, HatB⟩, HR⟩
  iapply (Rounds.wp_wait_rest_token 𝒱₀ ER (Rd m) (c : Thread nD τ) none (κ := K (c, .inl ()))
      (wpE_semWait_eq 𝒱₀ (c : Thread nD τ) none Set.univ) (Set.mem_univ _) () (O := Ow c 15 0 0) (W := W) (R := 0) (m := 0) (T := ∅)
      ((Nat.zero_add _).trans (expect_bar m c).symm)) $$ [HcB HO HatB]
  · isplitr; · iapply (records_inv m K (c, .inl ())); iexact Hrec
    isplitl [HcB]; · iexact HcB
    isplitl [HO]; · iexact HO
    isplitr
    · iapply hM; iexact Hrec
    iexact HatB
  iintro ⟨HO, HatB, -, Hpay⟩
  ihave Hp := (rest_bar_reg m c) $$ Hpay
  iapply h
  unfold owesAny
  isplitr [HR]
  · isplitr; · iexact Hrec
    isplitl [HO]; · iexists _; iexact HO
    isplitl [HatB]; · iexact HatB
    iexact Hp
  iexact HR

/-- The first exchange's transfer to peer `k`. -/
theorem step_send0 {α : Type} {R : sProp 𝕄} {Q : α → sProp 𝕄} {kont : PUnit → Prog (TpuEff nD τ sig (Elt F) Λ₀ .tc) α}
    (c n : Dev nD) {k : ℕ} (hk : k < 15) (hn : n = peer c k)
    {src : Memref sig .tc .vmem S32x512 .f32} (hsr : src = aRow (peer c k)) {dst : Memref sig .tc .vmem S32x512 .f32} (hds : dst = slot c)
    {sS sR : DmaSem sig} (hS : sS = dsem 0 (peer c k)) (hR : sR = dsem 1 c)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) (dst : Memref sig .tc .vmem S32x512 .f32) (.dma sS) hsc)}
    (h : iprop(stB m K c (k + 1) ∗ R) ⊢ WP c (kont ⟨⟩) Q) :
    iprop(stB m K c k ∗ R) ⊢ WP c (.op (.enqueueDma src (.remote (Dev.tc n : Thread nD τ) dst (.dma sS) hsc) (.dma sR) hsrc hdst hsem) kont) Q := by
  subst hn hsr hds hS hR
  unfold stB owesAny
  rw [bigSep_Ico_succ_bot hk (famB m c)]
  iintro ⟨⟨#Hrec, ⟨%W, HO⟩, ⟨HB, Hrest⟩, Hcr⟩, HR⟩
  unfold famB slotAny aPts
  icases HB with ⟨Ha, ⟨%fd, Hsl⟩, Ht1, Ht2⟩
  iapply (Rounds.wp_send_pointsTo 𝒱₀ ER (Rd m) (c : Thread nD τ) none (κ₁ := K (c, .inr (0, peer c k))) (κ₂ := K (peer c k, .inr (1, c)))
    (r₁ := 0) (r₂ := 0) (d₁ := c) (d₂ := c) (fd := fd)
    (by rw [duties_send m c (peer_ne c hk) (by decide)]; exact Finset.mem_singleton_self _)
    (by rw [duties_land m (peer c k) (peer_ne c hk).symm (by decide)]; exact Finset.mem_singleton_self _)
    () () N rfl (amount_cell m 0 c (peer c k) 0 c) (amount_cell m 1 (peer c k) c 0 c) (Ow c 15 (k + 1) 0) (Ow_rs c 15 hk 0) (W := W)
    (by rw [payload_eq m c (.inr (0, peer c k)) 0 c]; exact BI.Entails.refl _)
    (by rw [payload_eq m (peer c k) (.inr (1, c)) 0 c]
        show _ ⊢ slotPts m (peer c k) c
        exact Entails.of_eq (pointsTo_congr (land_slot m c (peer c k) fd)))) $$ [Ha Hsl HO Ht1 Ht2]
  · isplitr; · iapply (records_inv m K (c, .inr (0, peer c k))); iexact Hrec
    isplitr; · iapply (records_inv m K (peer c k, .inr (1, c))); iexact Hrec
    isplitl [Ha]; · iexact Ha
    isplitl [Hsl]; · iexact Hsl
    isplitl [HO]; · iexact HO
    isplitl [Ht1]; · iexact Ht1
    isplitr; · iapply (records_reached m K (c, .inr (0, peer c k))); iexact Hrec
    isplitl [Ht2]; · iexact Ht2
    iapply (records_reached m K (peer c k, .inr (1, c))); iexact Hrec
  iintro ⟨Hc, HO⟩
  iapply h
  unfold stB owesAny
  rw [bigSep_range_succ k (credS (F := F) c)]
  isplitr [HR]
  · isplitr; · iexact Hrec
    isplitl [HO]; · iexists W; iexact HO
    isplitl [Hrest]; · unfold famB slotAny aPts; iexact Hrest
    isplitl [Hc]; · unfold credS; iexact Hc
    iexact Hcr
  iexact HR

/-- A piece of a device's own row block splits off for the `k`-th transfer of it. -/
theorem oPts_split (c : Dev nD) (k : ℕ) : (oPts m (remShare k) c c : sProp 𝕄) ⊣⊢ iprop(oPts m (pieceShare k) c c ∗ oPts m (remShare (k + 1)) c c) := by
  unfold oPts
  exact pointsTo_share (PosShare.mem_left_op_right _)

/-- The second exchange's transfer to peer `k`. -/
theorem step_send1 {α : Type} {R : sProp 𝕄} {Q : α → sProp 𝕄} {kont : PUnit → Prog (TpuEff nD τ sig (Elt F) Λ₀ .tc) α}
    (c n : Dev nD) {k : ℕ} (hk : k < 15) (hn : n = peer c k)
    {src : Memref sig .tc .vmem S32x512 .f32} (hsr : src = oRow c) {dst : Memref sig .tc .vmem S32x512 .f32} (hds : dst = oRow c)
    {sS sR : DmaSem sig} (hS : sS = dsem 0 (peer c k)) (hR : sR = dsem 2 c)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) (dst : Memref sig .tc .vmem S32x512 .f32) (.dma sS) hsc)}
    (h : iprop(stE m K c (k + 1) ∗ R) ⊢ WP c (kont ⟨⟩) Q) :
    iprop(stE m K c k ∗ R) ⊢ WP c (.op (.enqueueDma src (.remote (Dev.tc n : Thread nD τ) dst (.dma sS) hsc) (.dma sR) hsrc hdst hsem) kont) Q := by
  subst hn hsr hds hS hR
  unfold stE owesAny
  rw [bigSep_Ico_succ_bot hk (famE (F := F) c)]
  iintro ⟨⟨#Hrec, ⟨%W, HO⟩, Ho, ⟨HE, Hrest⟩, Hcr⟩, HR⟩
  ihave Ho' := (oPts_split m c k).1 $$ Ho
  unfold famE oAny
  icases Ho' with ⟨Hp, Ho⟩
  icases HE with ⟨#Hre, Ht1, Ht2, ⟨%fd, Hsl⟩⟩
  unfold oPts
  iapply (Rounds.wp_send_pointsTo 𝒱₀ ER (Rd m) (c : Thread nD τ) none (κ₁ := K (c, .inr (0, peer c k))) (κ₂ := K (peer c k, .inr (2, c)))
    (r₁ := 1) (r₂ := 0) (d₁ := c) (d₂ := c) (fd := fd)
    (by rw [duties_send m c (peer_ne c hk) (by decide)]; exact Finset.mem_singleton_self _)
    (by rw [duties_land m (peer c k) (peer_ne c hk).symm (by decide)]; exact Finset.mem_singleton_self _)
    () () N rfl (amount_cell m 0 c (peer c k) 1 c) (amount_cell m 2 (peer c k) c 0 c) (Ow c 15 15 (k + 1)) (Ow_ag c 15 15 hk) (W := W)
    (by rw [payload_eq m c (.inr (0, peer c k)) 1 c]
        show _ ⊢ oPts m (pieceShare (peerIdx c (peer c k))) c c
        rw [peerIdx_peer c hk]; exact BI.Entails.refl _)
    (by rw [payload_eq m (peer c k) (.inr (2, c)) 0 c]
        show _ ⊢ oPts m fullShare (peer c k) c
        exact Entails.of_eq (pointsTo_congr (land_row m c fd)))) $$ [Hp Hsl HO Ht1 Ht2]
  · isplitr; · iapply (records_inv m K (c, .inr (0, peer c k))); iexact Hrec
    isplitr; · iapply (records_inv m K (peer c k, .inr (2, c))); iexact Hrec
    isplitl [Hp]; · iexact Hp
    isplitl [Hsl]; · iexact Hsl
    isplitl [HO]; · iexact HO
    isplitl [Ht1]; · iexact Ht1
    isplitr; · iexact Hre
    isplitl [Ht2]; · iexact Ht2
    iapply (records_reached m K (peer c k, .inr (2, c))); iexact Hrec
  iintro ⟨Hc, HO⟩
  iapply h
  unfold stE owesAny
  rw [bigSep_range_succ k (credS (F := F) c)]
  isplitr [HR]
  · isplitr; · iexact Hrec
    isplitl [HO]; · iexists W; iexact HO
    isplitl [Ho]; · unfold oPts; iexact Ho
    isplitl [Hrest]; · unfold famE oAny; iexact Hrest
    isplitl [Hc]; · unfold credS; iexact Hc
    iexact Hcr
  iexact HR

theorem credit_eq (d : Memref sig .tc .vmem S32x512 .f32) : d.view.dmaCredit = N := rfl
/-- The credit of a wait naming a row block. -/
theorem wait_eq (c : Dev nD) {q : DmaSem sig} {srcw dstw : Memref sig .tc .vmem S32x512 .f32}
    {hsrc : srcw.view.WordExact} {hdst : dstw.view.WordExact} (Kt : PUnit → sProp 𝕄) :
    wpE (defs₀ (F := F)) 𝒱₀ (c : Thread nD τ) none Set.univ (.waitDma2 q srcw dstw hsrc hdst) Kt
      = waitSpec (c : Thread nD τ) Set.univ (.dma q) N Kt := by
  rw [← credit_eq dstw]
  exact wpE_waitDma2_eq 𝒱₀ (c : Thread nD τ) none Set.univ Kt

/-- A wait on cell `k` of family `j`. -/
theorem step_wait {α : Type} {R : sProp 𝕄} {Q : α → sProp 𝕄} {kont : PUnit → Prog (TpuEff nD τ sig (Elt F) Λ₀ .tc) α}
    (l : ℕ) (j : Fin 3) (r : ℕ) (X : ℕ → sProp 𝕄) (c : Dev nD) {k : ℕ} (hk : k < 15)
    (hlv : levK (.inr (j, peer c k)) < 3 ∨ 15 ≤ l)
    (hexp : (Rd (F := F) m).expect (cell j c (peer c k)) r = N)
    (hrest : bigSep ((Rd (F := F) m).duties (cell j c (peer c k)) r \ ∅) (fun d => (Rd (F := F) m).payload (cell j c (peer c k)) r d) = X k)
    {sm : DmaSem sig} (hs : sm = dsem j (peer c k)) {srcw dstw : Memref sig .tc .vmem S32x512 .f32}
    {hsrc : srcw.view.WordExact} {hdst : dstw.view.WordExact}
    (h : iprop(stW m K l j r X c (k + 1) ∗ R) ⊢ WP c (kont ⟨⟩) Q) :
    iprop(stW m K l j r X c k ∗ R) ⊢ WP c (.op (.waitDma2 sm srcw dstw hsrc hdst) kont) Q := by
  subst hs
  have hM : records m K ⊢ MayWait (c : Thread nD τ) (.dma (dsem j (peer c k))) () (Ow c 15 15 l) :=
    (records_mayWait m K c (.dma (dsem j (peer c k))) 15 15 l (levK (.inr (j, peer c k))) (le_of_eq (lv_kcell c (.inr (j, peer c k)) ()))
        (fun h => absurd h (by decide)) (fun h => absurd h (by decide)) (fun h => hlv.elim id fun h' => absurd h (Nat.not_lt.mpr h')))
  have hrest' : bigSep ((Rd (F := F) m).duties ((c : Thread nD τ), .dma (dsem j (peer c k))) r \ ∅)
      (fun d => (Rd (F := F) m).payload ((c : Thread nD τ), .dma (dsem j (peer c k))) r d) ⊢ X k := Entails.of_eq hrest
  unfold stW owesAny
  rw [bigSep_Ico_succ_bot hk (famW (F := F) j r c)]
  iintro ⟨⟨#Hrec, ⟨%W, HO⟩, ⟨HW, Hrest⟩, HX, HP⟩, HR⟩
  unfold famW
  icases HW with ⟨Hcr, Hat⟩
  iapply (Rounds.wp_wait_rest_token 𝒱₀ ER (Rd m) (c : Thread nD τ) none (κ := K (c, .inr (j, peer c k)))
      (wait_eq c) (Set.mem_univ _) () (O := Ow c 15 15 l) (W := W) (R := r) (m := 0) (T := ∅)
      ((Nat.zero_add _).trans hexp.symm)) $$ [Hcr HO Hat]
  · isplitr; · iapply (records_inv m K (c, .inr (j, peer c k))); iexact Hrec
    isplitl [Hcr]; · iexact Hcr
    isplitl [HO]; · iexact HO
    isplitr
    · iapply hM; iexact Hrec
    iexact Hat
  iintro ⟨HO, Hat, #Hre, Hpay⟩
  ihave Hp := hrest' $$ Hpay
  iapply h
  unfold stW owesAny
  rw [bigSep_range_succ k X, bigSep_range_succ k (pastW (F := F) j r c)]
  isplitr [HR]
  · isplitr; · iexact Hrec
    isplitl [HO]; · iexists _; iexact HO
    isplitl [Hrest]; · unfold famW; iexact Hrest
    isplitl [Hp HX]; · isplitl [Hp] <;> iassumption
    isplitl [Hat]
    · unfold pastW
      isplitl [Hat]; · iexact Hat
      iexact Hre
    iexact HP
  iexact HR

/-! ## The semaphores, devices and buffers the body names -/

omit [FloatOps F] in
/-- The place of an array's element in its pool: its base and its index. -/
theorem sem_of (b : ℕ) (hb : b + S16.numel ≤ 54) (t : Dev nD) {off : Fin 1 → ℕ} (h : off = ![t.val]) (inb) :
    (((SemArray.consecutive b S16 hb).slice (Rect.unit (s := S16) off S1.size inb)).squeeze S_ squeezes_S1_S_).sem.val = b + t.val := by
  subst h
  have hr : ∀ i : S16.Idx, (S16.rowMajor i).val = (i 0).val := by decide
  show b + (S16.rowMajor ((Rect.unit (s := S16) ![t.val] S1.size inb).emb _)).val = b + t.val
  generalize Shape.reshapeEquiv _ _ = x
  have hx : (x 0).val = 0 := by have h1 : (x 0).val < 1 := (x 0).isLt; omega
  rw [hr]
  show b + (t.val + 1 * (x 0).val) = b + t.val
  omega
omit [FloatOps F] in
theorem sem_send (t : Dev nD) {off : Fin 1 → ℕ} (h : off = ![t.val]) (inb) :
    ((cc0_scratch5.slice (Rect.unit (s := S16) off S1.size inb)).squeeze S_ squeezes_S1_S_).sem = dsem 0 t := Fin.ext (sem_of 6 _ t h inb)
omit [FloatOps F] in
theorem sem_rs (t : Dev nD) {off : Fin 1 → ℕ} (h : off = ![t.val]) (inb) :
    ((cc0_scratch6.slice (Rect.unit (s := S16) off S1.size inb)).squeeze S_ squeezes_S1_S_).sem = dsem 1 t := Fin.ext (sem_of 22 _ t h inb)
omit [FloatOps F] in
theorem sem_ag (t : Dev nD) {off : Fin 1 → ℕ} (h : off = ![t.val]) (inb) :
    ((cc0_scratch7.slice (Rect.unit (s := S16) off S1.size inb)).squeeze S_ squeezes_S1_S_).sem = dsem 2 t := Fin.ext (sem_of 38 _ t h inb)
theorem aRow_of (t : Dev nD) {off : Fin 2 → ℕ} (h : off = ![32 * t.val, 0]) (inb) :
    aM.slice (Rect.unit (s := S512x512) off S32x512.size inb) (fun _ => rfl) = aRow t := by subst h; rfl
theorem oRow_of (t : Dev nD) {off : Fin 2 → ℕ} (h : off = ![32 * t.val, 0]) (inb) :
    oM.slice (Rect.unit (s := S512x512) off S32x512.size inb) (fun _ => rfl) = oRow t := by subst h; rfl
theorem slot_of (t : Dev nD) {off : Fin 3 → ℕ} (h : off = ![t.val, 0, 0]) (inb) :
    (cM.slice (Rect.unit (s := S16x32x512) off S1x32x512.size inb) (fun _ => rfl)).squeeze S32x512 squeezes_S1x32x512_S32x512 = slot t := by subst h; rfl

/-! The semaphores the body names for its `r`-th peer. -/

abbrev sSem (c : Dev nD) (r : Fin 15) : DmaSem sig :=
  ((cc0_scratch5.slice (Rect.unit (s := S16) (k0_off3 c (BitVec.ofNat 32 (1 + r.val))) S1.size (k0_off3_inb c r))).squeeze S_ squeezes_S1_S_).sem
abbrev rsSem (c : Dev nD) (r : Fin 15) : DmaSem sig :=
  ((cc0_scratch6.slice (Rect.unit (s := S16) (k0_off3 c (BitVec.ofNat 32 (1 + r.val))) S1.size (k0_off3_inb c r))).squeeze S_ squeezes_S1_S_).sem
abbrev agSem (c : Dev nD) (r : Fin 15) : DmaSem sig :=
  ((cc0_scratch7.slice (Rect.unit (s := S16) (k0_off3 c (BitVec.ofNat 32 (1 + r.val))) S1.size (k0_off3_inb c r))).squeeze S_ squeezes_S1_S_).sem

/-- The wait for the first exchange's landing from peer `r`. -/
theorem step_rsWait {α : Type} {R : sProp 𝕄} {Q : α → sProp 𝕄} {kont : PUnit → Prog (TpuEff nD τ sig (Elt F) Λ₀ .tc) α}
    (c : Dev nD) (r : Fin 15) {srcw dstw : Memref sig .tc .vmem S32x512 .f32} {hsrc : srcw.view.WordExact} {hdst : dstw.view.WordExact}
    (h : iprop(stC m K c (r.val + 1) ∗ R) ⊢ WP c (kont ⟨⟩) Q) :
    iprop(stC m K c r.val ∗ R) ⊢ WP c (.op (.waitDma2 (rsSem c r) srcw dstw hsrc hdst) kont) Q :=
  step_wait m K 0 1 0 _ c r.isLt (Or.inl (by show 2 < 3; decide)) (expect_land m c (peer_ne c r.isLt) (by decide)) (rest_rs m c (peer_ne c r.isLt))
    (sem_rs _ (k0_off3_eq c r) _) h

/-- The wait for the return of the first exchange's transfer to peer `r`. -/
theorem step_sWait0 {α : Type} {R : sProp 𝕄} {Q : α → sProp 𝕄} {kont : PUnit → Prog (TpuEff nD τ sig (Elt F) Λ₀ .tc) α}
    (c : Dev nD) (r : Fin 15) {srcw dstw : Memref sig .tc .vmem S32x512 .f32} {hsrc : srcw.view.WordExact} {hdst : dstw.view.WordExact}
    (h : iprop(stD m K c (r.val + 1) ∗ R) ⊢ WP c (kont ⟨⟩) Q) :
    iprop(stD m K c r.val ∗ R) ⊢ WP c (.op (.waitDma2 (sSem c r) srcw dstw hsrc hdst) kont) Q :=
  step_wait m K 0 0 0 _ c r.isLt (Or.inl (by show 0 < 3; decide)) (expect_send m c (peer_ne c r.isLt) (by decide)) (rest_send0 m c (peer_ne c r.isLt))
    (sem_send _ (k0_off3_eq c r) _) h

/-- The wait for the second exchange's landing from peer `r`. -/
theorem step_agWait {α : Type} {R : sProp 𝕄} {Q : α → sProp 𝕄} {kont : PUnit → Prog (TpuEff nD τ sig (Elt F) Λ₀ .tc) α}
    (c : Dev nD) (r : Fin 15) {srcw dstw : Memref sig .tc .vmem S32x512 .f32} {hsrc : srcw.view.WordExact} {hdst : dstw.view.WordExact}
    (h : iprop(stF m K c (r.val + 1) ∗ R) ⊢ WP c (kont ⟨⟩) Q) :
    iprop(stF m K c r.val ∗ R) ⊢ WP c (.op (.waitDma2 (agSem c r) srcw dstw hsrc hdst) kont) Q :=
  step_wait m K 15 2 0 _ c r.isLt (Or.inr (by decide)) (expect_land m c (peer_ne c r.isLt) (by decide)) (rest_ag m c (peer_ne c r.isLt))
    (sem_ag _ (k0_off3_eq c r) _) h

/-- The wait for the return of the second exchange's transfer to peer `r`. -/
theorem step_sWait1 {α : Type} {R : sProp 𝕄} {Q : α → sProp 𝕄} {kont : PUnit → Prog (TpuEff nD τ sig (Elt F) Λ₀ .tc) α}
    (c : Dev nD) (r : Fin 15) {srcw dstw : Memref sig .tc .vmem S32x512 .f32} {hsrc : srcw.view.WordExact} {hdst : dstw.view.WordExact}
    (h : iprop(stG m K c (r.val + 1) ∗ R) ⊢ WP c (kont ⟨⟩) Q) :
    iprop(stG m K c r.val ∗ R) ⊢ WP c (.op (.waitDma2 (sSem c r) srcw dstw hsrc hdst) kont) Q :=
  step_wait m K 15 0 1 _ c r.isLt (Or.inr (by decide)) (expect_send m c (peer_ne c r.isLt) (by decide))
    ((rest_send1 m c (peer_ne c r.isLt)).trans (by rw [peerIdx_peer c r.isLt])) (sem_send _ (k0_off3_eq c r) _) h

/-- The first exchange's transfer to peer `r`, as the body issues it. -/
theorem step_rs {α : Type} {R : sProp 𝕄} {Q : α → sProp 𝕄} {kont : PUnit → Prog (TpuEff nD τ sig (Elt F) Λ₀ .tc) α}
    (c n : Dev nD) (r : Fin 15) (hn : n.val = (c.val + r.val + 1) % 16)
    {hsc} {hsrc} {hdst} {hsem}
    (h : iprop(stB m K c (r.val + 1) ∗ R) ⊢ WP c (kont ⟨⟩) Q) :
    iprop(stB m K c r.val ∗ R) ⊢ WP c (.op (.enqueueDma
      (aM.slice (Rect.unit (s := S512x512) (k0_off6 c (BitVec.ofNat 32 (1 + r.val))) S32x512.size (k0_off6_inb c r)) (fun _ => rfl))
      (.remote (Dev.tc n : Thread nD τ) ((cM.slice (Rect.unit (s := S16x32x512) (k0_off5 c) S1x32x512.size (k0_off5_inb c)) (fun _ => rfl)).squeeze S32x512 squeezes_S1x32x512_S32x512) (.dma (sSem c r)) hsc)
      (.dma ((cc0_scratch6.slice (Rect.unit (s := S16) (k0_off4 c) S1.size (k0_off4_inb c))).squeeze S_ squeezes_S1_S_).sem) hsrc hdst hsem) kont) Q :=
  step_send0 m K c n r.isLt (Fin.ext hn) (aRow_of _ (k0_off6_eq c r) _) (slot_of _ (k0_off5_eq c) _) (sem_send _ (k0_off3_eq c r) _) (sem_rs _ (k0_off4_eq c) _) h

/-- The second exchange's transfer to peer `r`, as the body issues it. -/
theorem step_ag {α : Type} {R : sProp 𝕄} {Q : α → sProp 𝕄} {kont : PUnit → Prog (TpuEff nD τ sig (Elt F) Λ₀ .tc) α}
    (c n : Dev nD) (r : Fin 15) (hn : n.val = (c.val + r.val + 1) % 16)
    {hsc} {hsrc} {hdst} {hsem}
    (h : iprop(stE m K c (r.val + 1) ∗ R) ⊢ WP c (kont ⟨⟩) Q) :
    iprop(stE m K c r.val ∗ R) ⊢ WP c (.op (.enqueueDma
      (oM.slice (Rect.unit (s := S512x512) (k0_off10 c) S32x512.size (k0_off10_inb c)) (fun _ => rfl))
      (.remote (Dev.tc n : Thread nD τ) (oM.slice (Rect.unit (s := S512x512) (k0_off10 c) S32x512.size (k0_off10_inb c)) (fun _ => rfl)) (.dma (sSem c r)) hsc)
      (.dma ((cc0_scratch7.slice (Rect.unit (s := S16) (k0_off4 c) S1.size (k0_off4_inb c))).squeeze S_ squeezes_S1_S_).sem) hsrc hdst hsem) kont) Q :=
  step_send1 m K c n r.isLt (Fin.ext hn) (oRow_of _ (k0_off10_eq c) _) (oRow_of _ (k0_off10_eq c) _) (sem_send _ (k0_off3_eq c r) _) (sem_ag _ (k0_off4_eq c) _) h

/-! ## The loads and the store between the effects -/

theorem setOn_whole {κ : Kind} (b : Ref sig κ) (S : Finset b.ty.shape.Idx) :
    ((Memref.whole b : Memref sig κ _ _ _).view.setOn S) = S := Finset.map_refl

/-- The load of landing slot `r`, which the last wait handed over. -/
theorem step_ldSlot {α : Type} {R : sProp 𝕄} {Q : α → sProp 𝕄} (c : Dev nD) (r : Fin 15)
    {hl} {kont : Vec F S1x32x512 .f32 → Prog (TpuEff nD τ sig (Elt F) Λ₀ .tc) α}
    (h : iprop(stC m K c (r.val + 1) ∗ R) ⊢ WP c (kont (ldC m c r)) Q) :
    iprop(stC m K c (r.val + 1) ∗ R) ⊢ WP c (.op (.load cM
      (Rect.unit (s := S16x32x512) (k0_off9 c (BitVec.ofNat 32 (1 + r.val))) S1x32x512.size (k0_off9_inb c r)).toLoadRect hl) kont) Q := by
  unfold stC stW at h ⊢
  rw [bigSep_range_succ r.val (fun a => slotPts m c (peer c a))] at h ⊢
  iintro ⟨⟨#Hrec, HO, HW, ⟨Hs, HX⟩, HP⟩, HR⟩
  unfold slotPts at h ⊢
  iapply (wp_load 𝒱₀ (c : Thread nD τ) none Set.univ (m := cM) (r := (Rect.unit (s := S16x32x512) (k0_off9 c (BitVec.ofNat 32 (1 + r.val))) S1x32x512.size (k0_off9_inb c r)).toLoadRect)
    (S := (slot (peer c r.val)).view.set) (by
      rw [setOn_whole, slot_set]
      have e := k0_off9_eq c r
      refine subset_of_eq ?_
      show (Rect.unit (s := S16x32x512) _ S1x32x512.size _).set = _
      congr 1
      simp only [slotRect, e]; rfl)) $$ Hs
  iintro Hs
  iapply h
  isplitr [HR]
  · isplitr; · iexact Hrec
    isplitl [HO]; · iexact HO
    isplitl [HW]; · iexact HW
    isplitl [Hs HX]; · isplitl [Hs] <;> iassumption
    iexact HP
  iexact HR

theorem row7_eq (c : Dev nD) : Rect.unit (s := S512x512) (k0_off7 c) S32x512.size (k0_off7_inb c) = rowRect c := by
  simp only [rowRect, k0_off7_eq c]
theorem row7_set (c : Dev nD) : (Rect.unit (s := S512x512) (k0_off7 c) S32x512.size (k0_off7_inb c)).set = (rowRect c).set := by rw [row7_eq]

/-- The load of a device's own row block of its partial product. -/
theorem step_ldA {α : Type} {R : sProp 𝕄} {Q : α → sProp 𝕄} (c : Dev nD)
    {hl} {kont : Vec F S32x512 .f32 → Prog (TpuEff nD τ sig (Elt F) Λ₀ .tc) α}
    (h : iprop(aPts m c c ∗ R) ⊢ WP c (kont (ldA m c)) Q) :
    iprop(aPts m c c ∗ R) ⊢ WP c (.op (.load aM
      (Rect.unit (s := S512x512) (k0_off7 c) S32x512.size (k0_off7_inb c)).toLoadRect hl) kont) Q := by
  unfold aPts at h ⊢
  iintro ⟨Hs, HR⟩
  iapply (wp_load 𝒱₀ (c : Thread nD τ) none Set.univ (m := aM) (r := (Rect.unit (s := S512x512) (k0_off7 c) S32x512.size (k0_off7_inb c)).toLoadRect)
    (S := (aRow c).view.set) (by rw [setOn_whole, aRow_set]; exact subset_of_eq (row7_set c))) $$ Hs
  iintro Hs
  iapply h
  isplitl [Hs] <;> iassumption

/-- The load of a device's own row block of the result, whose value the body drops. -/
theorem step_ldO {α : Type} {R : sProp 𝕄} {Q : α → sProp 𝕄} (c : Dev nD)
    {hl} {kont : Vec F S32x512 .f32 → Prog (TpuEff nD τ sig (Elt F) Λ₀ .tc) α}
    (h : ∀ v, iprop(oAny c c ∗ R) ⊢ WP c (kont v) Q) :
    iprop(oAny c c ∗ R) ⊢ WP c (.op (.load oM
      (Rect.unit (s := S512x512) (k0_off7 c) S32x512.size (k0_off7_inb c)).toLoadRect hl) kont) Q := by
  unfold oAny at h ⊢
  iintro ⟨⟨%f, Hs⟩, HR⟩
  iapply (wp_load 𝒱₀ (c : Thread nD τ) none Set.univ (m := oM) (r := (Rect.unit (s := S512x512) (k0_off7 c) S32x512.size (k0_off7_inb c)).toLoadRect)
    (S := (oRow c).view.set) (by rw [setOn_whole, oRow_set]; exact subset_of_eq (row7_set c))) $$ Hs
  iintro Hs
  iapply (h _)
  isplitl [Hs]; · iexists f; iexact Hs
  iexact HR

theorem store_red' (c : Dev nD) {off : Fin 2 → ℕ} (h : off = ![32 * c.val, 0]) (inb) (fd : (cc0_stg3_0 : Ref sig .tc).ty.Contents (Elt F)) :
    ∀ i ∈ (oRow c).view.set, (oM.access (Rect.unit (s := S512x512) off S32x512.size inb)).write (Elt F) fd (redRows m c) Finset.univ i = outBuf m i := by
  subst h
  exact store_red m c fd

/-- The store of a device's own row block of the result, reduced. -/
theorem step_stO {α : Type} {R : sProp 𝕄} {Q : α → sProp 𝕄} (c : Dev nD) {kont : PUnit → Prog (TpuEff nD τ sig (Elt F) Λ₀ .tc) α}
    {hs} {hb} (h : iprop(oPts m fullShare c c ∗ R) ⊢ WP c (kont ⟨⟩) Q) :
    iprop(oAny c c ∗ R) ⊢ WP c (.op (.store oM
      (Rect.unit (s := S512x512) (k0_off7 c) S32x512.size (k0_off7_inb c)) (redRows m c) Finset.univ hs hb) kont) Q := by
  unfold oAny
  iintro ⟨⟨%f, Hs⟩, HR⟩
  iapply (wp_store 𝒱₀ (c : Thread nD τ) none Set.univ (m := oM) (r := Rect.unit (s := S512x512) (k0_off7 c) S32x512.size (k0_off7_inb c)) (Mk := Finset.univ)
    (S := (oRow c).view.set) (by rw [View.setOn_univ, oRow_set]; exact subset_of_eq ((View.set_slice_whole cc0_stg3_0 _).trans (row7_set c)))) $$ Hs
  iintro Hs
  iapply h
  isplitl [Hs]
  · unfold oPts
    iapply (Entails.of_eq (pointsTo_congr (store_red' m c (k0_off7_eq c) (k0_off7_inb c) f)))
    iexact Hs
  iexact HR

end Cert.KernelIdealProof

end
-- ==== Proof.Parts.lean ====
/-
# Parts — the body's communicating parts, each from the state before it to the state after it

The parts that send, receive and wait, at the kernel's buffers and semaphores, beside any frame. Where a part ends one phase and
begins the next, the step between the two states is a hypothesis.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The body's parts at its buffers and semaphores -/

/-- A part of the body applied to the kernel's buffers and semaphores. -/
abbrev atArgs {β : Type 1} (f : (a0 : Memref sig .tc .vmem S2x256x512 .f32) → a0.IsWhole → (a1 : Memref sig .tc .hbm S512x4096 .f32) → a1.IsWhole
    → (a2 : Memref sig .tc .vmem S2x256x4x64 .f32) → a2.IsWhole → (a3 : Memref sig .tc .vmem S2x256x4x64 .f32) → a3.IsWhole
    → (a4 : Memref sig .tc .hbm S4096x512 .f32) → a4.IsWhole → (a5 : Memref sig .tc .vmem S512x512 .f32) → a5.IsWhole
    → (a6 : Memref sig .tc .vmem S512x256 .f32) → a6.IsWhole → (a7 : Memref sig .tc .vmem S256x512 .f32) → a7.IsWhole
    → (a8 : Memref sig .tc .vmem S512x512 .f32) → a8.IsWhole → (a9 : Memref sig .tc .vmem S16x32x512 .f32) → a9.IsWhole
    → DmaSems sig S2 → DmaSems sig S16 → DmaSems sig S16 → DmaSems sig S16 → β) : β :=
  f xM (Memref.isWhole_whole _) gqM (Memref.isWhole_whole _) kM (Memref.isWhole_whole _) vM (Memref.isWhole_whole _) goM (Memref.isWhole_whole _)
    oM (Memref.isWhole_whole _) wqM (Memref.isWhole_whole _) woM (Memref.isWhole_whole _) aM (Memref.isWhole_whole _) cM (Memref.isWhole_whole _)
    cc0_scratch4 cc0_scratch5 cc0_scratch6 cc0_scratch7

/-- A finished part. -/
theorem step_ret {α : Type} {P : sProp 𝕄} {Q : α → sProp 𝕄} (c : Dev nD) {x : α} (h : P ⊢ Q x) : P ⊢ WP (F := F) c (.ret x) Q := by
  unfold WP
  rw [wp_ret]
  iintro H
  imodintro
  iapply h
  iexact H

omit [FloatOps F] in
theorem swap {A B C : sProp 𝕄} : iprop(A ∗ B ∗ C) ⊢ iprop(B ∗ A ∗ C) := by
  iintro ⟨HA, HB, HC⟩
  isplitl [HB]; · iexact HB
  isplitl [HA] <;> iassumption

/-- The third to fifth sends of the reduction. -/
theorem part11_spec {R : sProp 𝕄} (c : Dev nD) (v2 : BitVec 32) (x : BitVec 32) (y : BitVec 32) {Q : _ → sProp 𝕄}
    (hQ : ∀ w, iprop(stB m K c 5 ∗ R) ⊢ Q w) :
    iprop(stB m K c 2 ∗ R) ⊢ WP c (atArgs (k0_part11 (F := F)) c v2 x y) Q := by
  rw [k0_part11_eq_skeleton]
  unfold atArgs k0_part11_skel
  simp only [semSignalWord, semWaitWord, Prog.lift, Prog.bind_op, Prog.bind_ret, Prog.pure_eq_ret]
  refine step_rs m K c _ 2 (k0_dev18_eq c) ?_
  refine step_rs m K c _ 3 (k0_dev19_eq c) ?_
  refine step_rs m K c _ 4 (k0_dev20_eq c) ?_
  exact step_ret c (hQ _)

/-- The sixth to eighth sends of the reduction. -/
theorem part12_spec {R : sProp 𝕄} (c : Dev nD) (v2 : BitVec 32) (x : BitVec 32) {Q : _ → sProp 𝕄}
    (hQ : ∀ w, iprop(stB m K c 8 ∗ R) ⊢ Q w) :
    iprop(stB m K c 5 ∗ R) ⊢ WP c (atArgs (k0_part12 (F := F)) c v2 x) Q := by
  rw [k0_part12_eq_skeleton]
  unfold atArgs k0_part12_skel
  simp only [semSignalWord, semWaitWord, Prog.lift, Prog.bind_op, Prog.bind_ret, Prog.pure_eq_ret]
  refine step_rs m K c _ 5 (k0_dev21_eq c) ?_
  refine step_rs m K c _ 6 (k0_dev22_eq c) ?_
  refine step_rs m K c _ 7 (k0_dev23_eq c) ?_
  exact step_ret c (hQ _)

/-- The ninth and tenth sends of the reduction. -/
theorem part13_spec {R : sProp 𝕄} (c : Dev nD) (v2 : BitVec 32) (x : BitVec 32) {Q : _ → sProp 𝕄}
    (hQ : iprop(stB m K c 10 ∗ R) ⊢ Q ⟨⟩) :
    iprop(stB m K c 8 ∗ R) ⊢ WP c (atArgs (k0_part13 (F := F)) c v2 x) Q := by
  rw [k0_part13_eq_skeleton]
  unfold atArgs k0_part13_skel
  simp only [semSignalWord, semWaitWord, Prog.lift, Prog.bind_op, Prog.bind_ret, Prog.pure_eq_ret]
  refine step_rs m K c _ 8 (k0_dev24_eq c) ?_
  refine step_rs m K c _ 9 (k0_dev25_eq c) ?_
  exact step_ret c hQ

/-- The eleventh to thirteenth sends of the reduction. -/
theorem part14_spec {R : sProp 𝕄} (c : Dev nD) (v2 : BitVec 32) {Q : _ → sProp 𝕄}
    (hQ : iprop(stB m K c 13 ∗ R) ⊢ Q ⟨⟩) :
    iprop(stB m K c 10 ∗ R) ⊢ WP c (atArgs (k0_part14 (F := F)) c v2) Q := by
  rw [k0_part14_eq_skeleton]
  unfold atArgs k0_part14_skel
  simp only [semSignalWord, semWaitWord, Prog.lift, Prog.bind_op, Prog.bind_ret, Prog.pure_eq_ret]
  refine step_rs m K c _ 10 (k0_dev26_eq c) ?_
  refine step_rs m K c _ 11 (k0_dev27_eq c) ?_
  refine step_rs m K c _ 12 (k0_dev28_eq c) ?_
  exact step_ret c hQ

/-- The last two sends of the reduction, the device's own rows read, and the first block received. -/
theorem part15_spec {R : sProp 𝕄} (c : Dev nD) {R' : sProp 𝕄} (v2 : BitVec 32) {Q : _ → sProp 𝕄}
    (hT : iprop(stB m K c 15 ∗ R) ⊢ iprop(stC m K c 0 ∗ aPts m c c ∗ R'))
    (hQ : ∀ w w', iprop(stC m K c 1 ∗ aPts m c c ∗ R') ⊢ Q ⟨k0_pay20 (ldA m c) (ldC m c 0), w, w'⟩) :
    iprop(stB m K c 13 ∗ R) ⊢ WP c (atArgs (k0_part15 (F := F)) c v2) Q := by
  rw [k0_part15_eq_skeleton]
  unfold atArgs k0_part15_skel
  simp only [semSignalWord, semWaitWord, Prog.lift, Prog.bind_op, Prog.bind_ret, Prog.pure_eq_ret]
  refine step_rs m K c _ 13 (k0_dev29_eq c) ?_
  refine step_rs m K c _ 14 (k0_dev30_eq c) ?_
  refine hT.trans (swap.trans (step_ldA m c (swap.trans ?_)))
  refine step_rsWait m K c 0 ?_
  refine step_ldSlot m K c 0 ?_
  exact step_ret c (hQ _ _)

/-- The second and third blocks received. -/
theorem part16_spec {R : sProp 𝕄} (c : Dev nD) (v2 : BitVec 32) (v : FVec F S32x512 .f32) (x : BitVec 32) (y : BitVec 32) {Q : _ → sProp 𝕄}
    (hQ : ∀ w, iprop(stC m K c 3 ∗ R) ⊢ Q ⟨k0_pay21 v (ldC m c 1) (ldC m c 2), w⟩) :
    iprop(stC m K c 1 ∗ R) ⊢ WP c (atArgs (k0_part16 (F := F)) c v2 v x y) Q := by
  rw [k0_part16_eq_skeleton]
  unfold atArgs k0_part16_skel
  simp only [semSignalWord, semWaitWord, Prog.lift, Prog.bind_op, Prog.bind_ret, Prog.pure_eq_ret]
  refine step_rsWait m K c 1 ?_
  refine step_ldSlot m K c 1 ?_
  refine step_rsWait m K c 2 ?_
  refine step_ldSlot m K c 2 ?_
  exact step_ret c (hQ _)

/-- The fourth and fifth blocks received. -/
theorem part17_spec {R : sProp 𝕄} (c : Dev nD) (v2 : BitVec 32) (v : FVec F S32x512 .f32) (x : BitVec 32) {Q : _ → sProp 𝕄}
    (hQ : ∀ w, iprop(stC m K c 5 ∗ R) ⊢ Q ⟨k0_pay22 v (ldC m c 3) (ldC m c 4), w⟩) :
    iprop(stC m K c 3 ∗ R) ⊢ WP c (atArgs (k0_part17 (F := F)) c v2 v x) Q := by
  rw [k0_part17_eq_skeleton]
  unfold atArgs k0_part17_skel
  simp only [semSignalWord, semWaitWord, Prog.lift, Prog.bind_op, Prog.bind_ret, Prog.pure_eq_ret]
  refine step_rsWait m K c 3 ?_
  refine step_ldSlot m K c 3 ?_
  refine step_rsWait m K c 4 ?_
  refine step_ldSlot m K c 4 ?_
  exact step_ret c (hQ _)

/-- The sixth to eighth blocks received. -/
theorem part18_spec {R : sProp 𝕄} (c : Dev nD) (v2 : BitVec 32) (v : FVec F S32x512 .f32) (x : BitVec 32) {Q : _ → sProp 𝕄}
    (hQ : ∀ w, iprop(stC m K c 8 ∗ R) ⊢ Q ⟨k0_pay23 v (ldC m c 5) (ldC m c 6) (ldC m c 7), w⟩) :
    iprop(stC m K c 5 ∗ R) ⊢ WP c (atArgs (k0_part18 (F := F)) c v2 v x) Q := by
  rw [k0_part18_eq_skeleton]
  unfold atArgs k0_part18_skel
  simp only [semSignalWord, semWaitWord, Prog.lift, Prog.bind_op, Prog.bind_ret, Prog.pure_eq_ret]
  refine step_rsWait m K c 5 ?_
  refine step_ldSlot m K c 5 ?_
  refine step_rsWait m K c 6 ?_
  refine step_ldSlot m K c 6 ?_
  refine step_rsWait m K c 7 ?_
  refine step_ldSlot m K c 7 ?_
  exact step_ret c (hQ _)

/-- The ninth and tenth blocks received. -/
theorem part19_spec {R : sProp 𝕄} (c : Dev nD) (v2 : BitVec 32) (v : FVec F S32x512 .f32) (x : BitVec 32) {Q : _ → sProp 𝕄}
    (hQ : ∀ w, iprop(stC m K c 10 ∗ R) ⊢ Q ⟨k0_pay24 v (ldC m c 8) (ldC m c 9), w⟩) :
    iprop(stC m K c 8 ∗ R) ⊢ WP c (atArgs (k0_part19 (F := F)) c v2 v x) Q := by
  rw [k0_part19_eq_skeleton]
  unfold atArgs k0_part19_skel
  simp only [semSignalWord, semWaitWord, Prog.lift, Prog.bind_op, Prog.bind_ret, Prog.pure_eq_ret]
  refine step_rsWait m K c 8 ?_
  refine step_ldSlot m K c 8 ?_
  refine step_rsWait m K c 9 ?_
  refine step_ldSlot m K c 9 ?_
  exact step_ret c (hQ _)

/-- The eleventh and twelfth blocks received. -/
theorem part20_spec {R : sProp 𝕄} (c : Dev nD) (v2 : BitVec 32) (v : FVec F S32x512 .f32) (x : BitVec 32) {Q : _ → sProp 𝕄}
    (hQ : ∀ w, iprop(stC m K c 12 ∗ R) ⊢ Q ⟨k0_pay25 v (ldC m c 10) (ldC m c 11), w⟩) :
    iprop(stC m K c 10 ∗ R) ⊢ WP c (atArgs (k0_part20 (F := F)) c v2 v x) Q := by
  rw [k0_part20_eq_skeleton]
  unfold atArgs k0_part20_skel
  simp only [semSignalWord, semWaitWord, Prog.lift, Prog.bind_op, Prog.bind_ret, Prog.pure_eq_ret]
  refine step_rsWait m K c 10 ?_
  refine step_ldSlot m K c 10 ?_
  refine step_rsWait m K c 11 ?_
  refine step_ldSlot m K c 11 ?_
  exact step_ret c (hQ _)

/-- The last three blocks received. -/
theorem part21_spec {R : sProp 𝕄} (c : Dev nD) (v2 : BitVec 32) (v : FVec F S32x512 .f32) (x : BitVec 32) {Q : _ → sProp 𝕄}
    (hQ : iprop(stC m K c 15 ∗ R) ⊢ Q ⟨k0_pay26 v (ldC m c 12) (ldC m c 13), k0_pay27 (ldC m c 14)⟩) :
    iprop(stC m K c 12 ∗ R) ⊢ WP c (atArgs (k0_part21 (F := F)) c v2 v x) Q := by
  rw [k0_part21_eq_skeleton]
  unfold atArgs k0_part21_skel
  simp only [semSignalWord, semWaitWord, Prog.lift, Prog.bind_op, Prog.bind_ret, Prog.pure_eq_ret]
  refine step_rsWait m K c 12 ?_
  refine step_ldSlot m K c 12 ?_
  refine step_rsWait m K c 13 ?_
  refine step_ldSlot m K c 13 ?_
  refine step_rsWait m K c 14 ?_
  refine step_ldSlot m K c 14 ?_
  exact step_ret c hQ

/-- The summed rows stored, and the first three sends of the reduction waited for. -/
theorem part22_spec {R : sProp 𝕄} (c : Dev nD) {R1 R2 : sProp 𝕄} (v2 : BitVec 32) (u w : FVec F S32x512 .f32) {Q : _ → sProp 𝕄}
    (hv : k0_pay28 u w = redRows m c)
    (hT1 : iprop(stC m K c 15 ∗ R) ⊢ iprop(oAny c c ∗ R1))
    (hT2 : iprop(oPts m fullShare c c ∗ R1) ⊢ iprop(stD m K c 0 ∗ R2))
    (hQ : ∀ w w', iprop(stD m K c 3 ∗ R2) ⊢ Q ⟨w, w'⟩) :
    iprop(stC m K c 15 ∗ R) ⊢ WP c (atArgs (k0_part22 (F := F)) c v2 u w) Q := by
  rw [k0_part22_eq_skeleton]
  unfold atArgs k0_part22_skel
  simp only [semSignalWord, semWaitWord, Prog.lift, Prog.bind_op, Prog.bind_ret, Prog.pure_eq_ret]
  refine hT1.trans ?_
  refine step_ldO c fun _ => ?_
  rw [hv]
  refine step_stO m c (hT2.trans ?_)
  refine step_sWait0 m K c 0 ?_
  refine step_sWait0 m K c 1 ?_
  refine step_sWait0 m K c 2 ?_
  exact step_ret c (hQ _ _)

/-- Four more sends of the reduction waited for. -/
theorem part23_spec {R : sProp 𝕄} (c : Dev nD) (v2 : BitVec 32) (x : BitVec 32) (y : BitVec 32) {Q : _ → sProp 𝕄}
    (hQ : ∀ w, iprop(stD m K c 7 ∗ R) ⊢ Q w) :
    iprop(stD m K c 3 ∗ R) ⊢ WP c (atArgs (k0_part23 (F := F)) c v2 x y) Q := by
  rw [k0_part23_eq_skeleton]
  unfold atArgs k0_part23_skel
  simp only [semSignalWord, semWaitWord, Prog.lift, Prog.bind_op, Prog.bind_ret, Prog.pure_eq_ret]
  refine step_sWait0 m K c 3 ?_
  refine step_sWait0 m K c 4 ?_
  refine step_sWait0 m K c 5 ?_
  refine step_sWait0 m K c 6 ?_
  exact step_ret c (hQ _)

/-- Three more sends of the reduction waited for. -/
theorem part24_spec {R : sProp 𝕄} (c : Dev nD) (v2 : BitVec 32) (x : BitVec 32) {Q : _ → sProp 𝕄}
    (hQ : iprop(stD m K c 10 ∗ R) ⊢ Q ⟨⟩) :
    iprop(stD m K c 7 ∗ R) ⊢ WP c (atArgs (k0_part24 (F := F)) c v2 x) Q := by
  rw [k0_part24_eq_skeleton]
  unfold atArgs k0_part24_skel
  simp only [semSignalWord, semWaitWord, Prog.lift, Prog.bind_op, Prog.bind_ret, Prog.pure_eq_ret]
  refine step_sWait0 m K c 7 ?_
  refine step_sWait0 m K c 8 ?_
  refine step_sWait0 m K c 9 ?_
  exact step_ret c hQ

/-- Four more sends of the reduction waited for. -/
theorem part25_spec {R : sProp 𝕄} (c : Dev nD) (v2 : BitVec 32) {Q : _ → sProp 𝕄}
    (hQ : iprop(stD m K c 14 ∗ R) ⊢ Q ⟨⟩) :
    iprop(stD m K c 10 ∗ R) ⊢ WP c (atArgs (k0_part25 (F := F)) c v2) Q := by
  rw [k0_part25_eq_skeleton]
  unfold atArgs k0_part25_skel
  simp only [semSignalWord, semWaitWord, Prog.lift, Prog.bind_op, Prog.bind_ret, Prog.pure_eq_ret]
  refine step_sWait0 m K c 10 ?_
  refine step_sWait0 m K c 11 ?_
  refine step_sWait0 m K c 12 ?_
  refine step_sWait0 m K c 13 ?_
  exact step_ret c hQ

/-- The last send of the reduction waited for, and the first two sends of the gathering. -/
theorem part26_spec {R : sProp 𝕄} (c : Dev nD) {R' : sProp 𝕄} (v2 : BitVec 32) {Q : _ → sProp 𝕄}
    (hT : iprop(stD m K c 15 ∗ R) ⊢ iprop(stE m K c 0 ∗ R'))
    (hQ : ∀ w w', iprop(stE m K c 2 ∗ R') ⊢ Q ⟨w, w'⟩) :
    iprop(stD m K c 14 ∗ R) ⊢ WP c (atArgs (k0_part26 (F := F)) c v2) Q := by
  rw [k0_part26_eq_skeleton]
  unfold atArgs k0_part26_skel
  simp only [semSignalWord, semWaitWord, Prog.lift, Prog.bind_op, Prog.bind_ret, Prog.pure_eq_ret]
  refine step_sWait0 m K c 14 ?_
  refine hT.trans ?_
  refine step_ag m K c _ 0 (k0_dev31_eq c) ?_
  refine step_ag m K c _ 1 (k0_dev32_eq c) ?_
  exact step_ret c (hQ _ _)

/-- The third to fifth sends of the gathering. -/
theorem part27_spec {R : sProp 𝕄} (c : Dev nD) (v2 : BitVec 32) (x : BitVec 32) (y : BitVec 32) {Q : _ → sProp 𝕄}
    (hQ : ∀ w, iprop(stE m K c 5 ∗ R) ⊢ Q w) :
    iprop(stE m K c 2 ∗ R) ⊢ WP c (atArgs (k0_part27 (F := F)) c v2 x y) Q := by
  rw [k0_part27_eq_skeleton]
  unfold atArgs k0_part27_skel
  simp only [semSignalWord, semWaitWord, Prog.lift, Prog.bind_op, Prog.bind_ret, Prog.pure_eq_ret]
  refine step_ag m K c _ 2 (k0_dev33_eq c) ?_
  refine step_ag m K c _ 3 (k0_dev34_eq c) ?_
  refine step_ag m K c _ 4 (k0_dev35_eq c) ?_
  exact step_ret c (hQ _)

/-- The sixth to eighth sends of the gathering. -/
theorem part28_spec {R : sProp 𝕄} (c : Dev nD) (v2 : BitVec 32) (x : BitVec 32) {Q : _ → sProp 𝕄}
    (hQ : ∀ w w', iprop(stE m K c 8 ∗ R) ⊢ Q ⟨w, w'⟩) :
    iprop(stE m K c 5 ∗ R) ⊢ WP c (atArgs (k0_part28 (F := F)) c v2 x) Q := by
  rw [k0_part28_eq_skeleton]
  unfold atArgs k0_part28_skel
  simp only [semSignalWord, semWaitWord, Prog.lift, Prog.bind_op, Prog.bind_ret, Prog.pure_eq_ret]
  refine step_ag m K c _ 5 (k0_dev36_eq c) ?_
  refine step_ag m K c _ 6 (k0_dev37_eq c) ?_
  refine step_ag m K c _ 7 (k0_dev38_eq c) ?_
  exact step_ret c (hQ _ _)

/-- The ninth to eleventh sends of the gathering. -/
theorem part29_spec {R : sProp 𝕄} (c : Dev nD) (v2 : BitVec 32) (x : BitVec 32) (y : BitVec 32) {Q : _ → sProp 𝕄}
    (hQ : ∀ w, iprop(stE m K c 11 ∗ R) ⊢ Q w) :
    iprop(stE m K c 8 ∗ R) ⊢ WP c (atArgs (k0_part29 (F := F)) c v2 x y) Q := by
  rw [k0_part29_eq_skeleton]
  unfold atArgs k0_part29_skel
  simp only [semSignalWord, semWaitWord, Prog.lift, Prog.bind_op, Prog.bind_ret, Prog.pure_eq_ret]
  refine step_ag m K c _ 8 (k0_dev39_eq c) ?_
  refine step_ag m K c _ 9 (k0_dev40_eq c) ?_
  refine step_ag m K c _ 10 (k0_dev41_eq c) ?_
  exact step_ret c (hQ _)

/-- Two more sends of the gathering. -/
theorem part30_spec {R : sProp 𝕄} (c : Dev nD) (v2 : BitVec 32) (x : BitVec 32) {Q : _ → sProp 𝕄}
    (hQ : iprop(stE m K c 13 ∗ R) ⊢ Q ⟨⟩) :
    iprop(stE m K c 11 ∗ R) ⊢ WP c (atArgs (k0_part30 (F := F)) c v2 x) Q := by
  rw [k0_part30_eq_skeleton]
  unfold atArgs k0_part30_skel
  simp only [semSignalWord, semWaitWord, Prog.lift, Prog.bind_op, Prog.bind_ret, Prog.pure_eq_ret]
  refine step_ag m K c _ 11 (k0_dev42_eq c) ?_
  refine step_ag m K c _ 12 (k0_dev43_eq c) ?_
  exact step_ret c hQ

/-- The last two sends of the gathering, and its first block received. -/
theorem part31_spec {R : sProp 𝕄} (c : Dev nD) {R' : sProp 𝕄} (v2 : BitVec 32) {Q : _ → sProp 𝕄}
    (hT : iprop(stE m K c 15 ∗ R) ⊢ iprop(stF m K c 0 ∗ R'))
    (hQ : iprop(stF m K c 1 ∗ R') ⊢ Q ⟨⟩) :
    iprop(stE m K c 13 ∗ R) ⊢ WP c (atArgs (k0_part31 (F := F)) c v2) Q := by
  rw [k0_part31_eq_skeleton]
  unfold atArgs k0_part31_skel
  simp only [semSignalWord, semWaitWord, Prog.lift, Prog.bind_op, Prog.bind_ret, Prog.pure_eq_ret]
  refine step_ag m K c _ 13 (k0_dev44_eq c) ?_
  refine step_ag m K c _ 14 (k0_dev45_eq c) ?_
  refine hT.trans ?_
  refine step_agWait m K c 0 ?_
  exact step_ret c hQ

/-- Three more gathered blocks received. -/
theorem part32_spec {R : sProp 𝕄} (c : Dev nD) (v2 : BitVec 32) {Q : _ → sProp 𝕄}
    (hQ : iprop(stF m K c 4 ∗ R) ⊢ Q ⟨⟩) :
    iprop(stF m K c 1 ∗ R) ⊢ WP c (atArgs (k0_part32 (F := F)) c v2) Q := by
  rw [k0_part32_eq_skeleton]
  unfold atArgs k0_part32_skel
  simp only [semSignalWord, semWaitWord, Prog.lift, Prog.bind_op, Prog.bind_ret, Prog.pure_eq_ret]
  refine step_agWait m K c 1 ?_
  refine step_agWait m K c 2 ?_
  refine step_agWait m K c 3 ?_
  exact step_ret c hQ

/-- Three more gathered blocks received. -/
theorem part33_spec {R : sProp 𝕄} (c : Dev nD) (v2 : BitVec 32) {Q : _ → sProp 𝕄}
    (hQ : iprop(stF m K c 7 ∗ R) ⊢ Q ⟨⟩) :
    iprop(stF m K c 4 ∗ R) ⊢ WP c (atArgs (k0_part33 (F := F)) c v2) Q := by
  rw [k0_part33_eq_skeleton]
  unfold atArgs k0_part33_skel
  simp only [semSignalWord, semWaitWord, Prog.lift, Prog.bind_op, Prog.bind_ret, Prog.pure_eq_ret]
  refine step_agWait m K c 4 ?_
  refine step_agWait m K c 5 ?_
  refine step_agWait m K c 6 ?_
  exact step_ret c hQ

/-- Three more gathered blocks received. -/
theorem part34_spec {R : sProp 𝕄} (c : Dev nD) (v2 : BitVec 32) {Q : _ → sProp 𝕄}
    (hQ : iprop(stF m K c 10 ∗ R) ⊢ Q ⟨⟩) :
    iprop(stF m K c 7 ∗ R) ⊢ WP c (atArgs (k0_part34 (F := F)) c v2) Q := by
  rw [k0_part34_eq_skeleton]
  unfold atArgs k0_part34_skel
  simp only [semSignalWord, semWaitWord, Prog.lift, Prog.bind_op, Prog.bind_ret, Prog.pure_eq_ret]
  refine step_agWait m K c 7 ?_
  refine step_agWait m K c 8 ?_
  refine step_agWait m K c 9 ?_
  exact step_ret c hQ

/-- Three more gathered blocks received. -/
theorem part35_spec {R : sProp 𝕄} (c : Dev nD) (v2 : BitVec 32) {Q : _ → sProp 𝕄}
    (hQ : iprop(stF m K c 13 ∗ R) ⊢ Q ⟨⟩) :
    iprop(stF m K c 10 ∗ R) ⊢ WP c (atArgs (k0_part35 (F := F)) c v2) Q := by
  rw [k0_part35_eq_skeleton]
  unfold atArgs k0_part35_skel
  simp only [semSignalWord, semWaitWord, Prog.lift, Prog.bind_op, Prog.bind_ret, Prog.pure_eq_ret]
  refine step_agWait m K c 10 ?_
  refine step_agWait m K c 11 ?_
  refine step_agWait m K c 12 ?_
  exact step_ret c hQ

/-- The last two gathered blocks received, and the first two sends of the gathering waited for. -/
theorem part36_spec {R : sProp 𝕄} (c : Dev nD) {R' : sProp 𝕄} (v2 : BitVec 32) {Q : _ → sProp 𝕄}
    (hT : iprop(stF m K c 15 ∗ R) ⊢ iprop(stG m K c 0 ∗ R'))
    (hQ : iprop(stG m K c 2 ∗ R') ⊢ Q ⟨⟩) :
    iprop(stF m K c 13 ∗ R) ⊢ WP c (atArgs (k0_part36 (F := F)) c v2) Q := by
  rw [k0_part36_eq_skeleton]
  unfold atArgs k0_part36_skel
  simp only [semSignalWord, semWaitWord, Prog.lift, Prog.bind_op, Prog.bind_ret, Prog.pure_eq_ret]
  refine step_agWait m K c 13 ?_
  refine step_agWait m K c 14 ?_
  refine hT.trans ?_
  refine step_sWait1 m K c 0 ?_
  refine step_sWait1 m K c 1 ?_
  exact step_ret c hQ

/-- Four more sends of the gathering waited for. -/
theorem part37_spec {R : sProp 𝕄} (c : Dev nD) (v2 : BitVec 32) {Q : _ → sProp 𝕄}
    (hQ : ∀ w, iprop(stG m K c 6 ∗ R) ⊢ Q w) :
    iprop(stG m K c 2 ∗ R) ⊢ WP c (atArgs (k0_part37 (F := F)) c v2) Q := by
  rw [k0_part37_eq_skeleton]
  unfold atArgs k0_part37_skel
  simp only [semSignalWord, semWaitWord, Prog.lift, Prog.bind_op, Prog.bind_ret, Prog.pure_eq_ret]
  refine step_sWait1 m K c 2 ?_
  refine step_sWait1 m K c 3 ?_
  refine step_sWait1 m K c 4 ?_
  refine step_sWait1 m K c 5 ?_
  exact step_ret c (hQ _)

/-- Three more sends of the gathering waited for. -/
theorem part38_spec {R : sProp 𝕄} (c : Dev nD) (v2 : BitVec 32) (x : BitVec 32) {Q : _ → sProp 𝕄}
    (hQ : iprop(stG m K c 9 ∗ R) ⊢ Q ⟨⟩) :
    iprop(stG m K c 6 ∗ R) ⊢ WP c (atArgs (k0_part38 (F := F)) c v2 x) Q := by
  rw [k0_part38_eq_skeleton]
  unfold atArgs k0_part38_skel
  simp only [semSignalWord, semWaitWord, Prog.lift, Prog.bind_op, Prog.bind_ret, Prog.pure_eq_ret]
  refine step_sWait1 m K c 6 ?_
  refine step_sWait1 m K c 7 ?_
  refine step_sWait1 m K c 8 ?_
  exact step_ret c hQ

/-- Four more sends of the gathering waited for. -/
theorem part39_spec {R : sProp 𝕄} (c : Dev nD) (v2 : BitVec 32) {Q : _ → sProp 𝕄}
    (hQ : iprop(stG m K c 13 ∗ R) ⊢ Q ⟨⟩) :
    iprop(stG m K c 9 ∗ R) ⊢ WP c (atArgs (k0_part39 (F := F)) c v2) Q := by
  rw [k0_part39_eq_skeleton]
  unfold atArgs k0_part39_skel
  simp only [semSignalWord, semWaitWord, Prog.lift, Prog.bind_op, Prog.bind_ret, Prog.pure_eq_ret]
  refine step_sWait1 m K c 9 ?_
  refine step_sWait1 m K c 10 ?_
  refine step_sWait1 m K c 11 ?_
  refine step_sWait1 m K c 12 ?_
  exact step_ret c hQ

end Cert.KernelIdealProof

end
-- ==== Proof.Compute.lean ====
/-
# Compute — the body's first ten parts

The signals, the two local copies of the device's weight slices, the partial product, the barrier, and the first two sends, at the
kernel's buffers and semaphores, beside any frame.
-/
module

public import proofs.«01_k».proof.Proof.Parts

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The copies of the weight slices, and the operands -/

/-- The two local copies' semaphores. -/
abbrev lS0 : DmaSem sig := ((cc0_scratch4.slice (Rect.unit (s := S2) ![0] S1.size inb_S2_S1_0) : DmaSems sig S1).squeeze S_ squeezes_S1_S_).sem
abbrev lS1 : DmaSem sig := ((cc0_scratch4.slice (Rect.unit (s := S2) ![1] S1.size inb_S2_S1_1) : DmaSems sig S1).squeeze S_ squeezes_S1_S_).sem

/-- What the two local copies start from: the weights' slices in place, the two scratch buffers, and their two cells at zero. -/
def cp0 (c : Dev nD) : sProp 𝕄 :=
  iprop(((gqRow c).view.loc (c : Thread nD τ) ↦[(gqRow c).view.set]{fullShare} m ((c : Thread nD τ).loc main_arg1))
    ∗ ((goRow c).view.loc (c : Thread nD τ) ↦[(goRow c).view.set]{fullShare} m ((c : Thread nD τ).loc main_arg4))
    ∗ (∃ f, wqM.view.loc (c : Thread nD τ) ↦[Finset.univ]{fullShare} f)
    ∗ (∃ f, woM.view.loc (c : Thread nD τ) ↦[Finset.univ]{fullShare} f)
    ∗ semVal ((c : Thread nD τ), .dma lS0) 0 ∗ semVal ((c : Thread nD τ), .dma lS1) 0)

/-- The first copy over and the second on its way. -/
def cp1 (c : Dev nD) : sProp 𝕄 :=
  iprop(((gqRow c).view.loc (c : Thread nD τ) ↦[(gqRow c).view.set]{fullShare} m ((c : Thread nD τ).loc main_arg1))
    ∗ (wqM.view.loc (c : Thread nD τ) ↦[Finset.univ]{fullShare} wqs m c)
    ∗ semVal ((c : Thread nD τ), .dma lS0) 0
    ∗ Transfers.Flight EC (c : Thread nD τ) (.dma lS1) () (woM.view.dmaCredit)
      iprop((woM.view.loc (c : Thread nD τ) ↦[Finset.univ]{fullShare} wos m c)
        ∗ ((goRow c).view.loc (c : Thread nD τ) ↦[(goRow c).view.set]{fullShare} m ((c : Thread nD τ).loc main_arg4))))

/-- What the two copies leave besides the copied slices. -/
def cp2 (c : Dev nD) : sProp 𝕄 :=
  iprop(((gqRow c).view.loc (c : Thread nD τ) ↦[(gqRow c).view.set]{fullShare} m ((c : Thread nD τ).loc main_arg1))
    ∗ ((goRow c).view.loc (c : Thread nD τ) ↦[(goRow c).view.set]{fullShare} m ((c : Thread nD τ).loc main_arg4))
    ∗ semVal ((c : Thread nD τ), .dma lS0) 0 ∗ semVal ((c : Thread nD τ), .dma lS1) 0)

/-- The staged operands. -/
def opI (c : Dev nD) : sProp 𝕄 :=
  iprop((xM.view.loc (c : Thread nD τ) ↦[Finset.univ]{fullShare} xstg m c)
    ∗ (kM.view.loc (c : Thread nD τ) ↦[Finset.univ]{fullShare} kstg m c)
    ∗ (vM.view.loc (c : Thread nD τ) ↦[Finset.univ]{fullShare} vstg m c))
/-- The staged operands and the copied slices. -/
def ops (c : Dev nD) : sProp 𝕄 :=
  iprop(opI m c ∗ (wqM.view.loc (c : Thread nD τ) ↦[Finset.univ]{fullShare} wqs m c)
    ∗ (woM.view.loc (c : Thread nD τ) ↦[Finset.univ]{fullShare} wos m c))

/-- The partial product's buffer at any contents. -/
def aAny (c : Dev nD) : sProp 𝕄 := iprop(∃ f, aM.view.loc (c : Thread nD τ) ↦[Finset.univ]{fullShare} f)
/-- The partial product's buffer with its first 256 rows stored. -/
def aTop (c : Dev nD) : sProp 𝕄 :=
  iprop(∃ f, aM.view.loc (c : Thread nD τ) ↦[Finset.univ]{fullShare}
    (aM.access (Rect.unit (s := S512x512) ![0, 0] S256x512.size inb_S512x512_S256x512_0_0)).write (Elt F) f
      (accTop (xstg m c) (kstg m c) (vstg m c) (wqs m c) (wos m c)) Finset.univ)
/-- The partial product's buffer, complete. -/
def aAll (c : Dev nD) : sProp 𝕄 := iprop(aM.view.loc (c : Thread nD τ) ↦[Finset.univ]{fullShare} accBuf m c)

/-- A load from a buffer held whole beside anything. -/
theorem step_ld {α : Type} {P R : sProp 𝕄} {Q : α → sProp 𝕄} (c : Dev nD) {s : Shape} {b : Memref sig .tc .vmem s .f32}
    {r : LoadRect s} {hl} {kont : Vec F r.shape .f32 → Prog (TpuEff nD τ sig (Elt F) Λ₀ .tc) α} {f : Buf (Elt F) (b.view.loc (c : Thread nD τ))}
    (hP : P ⊢ iprop((b.view.loc (c : Thread nD τ) ↦[Finset.univ]{fullShare} f) ∗ ((b.view.loc (c : Thread nD τ) ↦[Finset.univ]{fullShare} f) -∗ P)))
    (h : iprop(P ∗ R) ⊢ WP c (kont (b.view.readAt (Elt F) r f)) Q) :
    iprop(P ∗ R) ⊢ WP c (.op (.load b r hl) kont) Q := by
  iintro ⟨HP, HR⟩
  ihave HP := hP $$ HP
  icases HP with ⟨Hb, HP⟩
  iapply (wp_load 𝒱₀ (c : Thread nD τ) none Set.univ (m := b) (Finset.subset_univ _)) $$ Hb
  iintro Hb
  iapply h
  isplitr [HR]
  · iapply HP; iexact Hb
  iexact HR

theorem ops_x (c : Dev nD) : ops m c ⊢ iprop((xM.view.loc (c : Thread nD τ) ↦[Finset.univ]{fullShare} xstg m c)
    ∗ ((xM.view.loc (c : Thread nD τ) ↦[Finset.univ]{fullShare} xstg m c) -∗ ops m c)) := by
  unfold ops opI
  iintro ⟨⟨Hx, Hk, Hv⟩, Hq, Ho⟩
  isplitl [Hx]; · iexact Hx
  iintro Hx
  isplitl [Hx Hk Hv]
  · isplitl [Hx]; · iexact Hx
    isplitl [Hk] <;> iassumption
  isplitl [Hq] <;> iassumption
theorem ops_k (c : Dev nD) : ops m c ⊢ iprop((kM.view.loc (c : Thread nD τ) ↦[Finset.univ]{fullShare} kstg m c)
    ∗ ((kM.view.loc (c : Thread nD τ) ↦[Finset.univ]{fullShare} kstg m c) -∗ ops m c)) := by
  unfold ops opI
  iintro ⟨⟨Hx, Hk, Hv⟩, Hq, Ho⟩
  isplitl [Hk]; · iexact Hk
  iintro Hk
  isplitl [Hx Hk Hv]
  · isplitl [Hx]; · iexact Hx
    isplitl [Hk] <;> iassumption
  isplitl [Hq] <;> iassumption
theorem ops_v (c : Dev nD) : ops m c ⊢ iprop((vM.view.loc (c : Thread nD τ) ↦[Finset.univ]{fullShare} vstg m c)
    ∗ ((vM.view.loc (c : Thread nD τ) ↦[Finset.univ]{fullShare} vstg m c) -∗ ops m c)) := by
  unfold ops opI
  iintro ⟨⟨Hx, Hk, Hv⟩, Hq, Ho⟩
  isplitl [Hv]; · iexact Hv
  iintro Hv
  isplitl [Hx Hk Hv]
  · isplitl [Hx]; · iexact Hx
    isplitl [Hk] <;> iassumption
  isplitl [Hq] <;> iassumption
theorem ops_q (c : Dev nD) : ops m c ⊢ iprop((wqM.view.loc (c : Thread nD τ) ↦[Finset.univ]{fullShare} wqs m c)
    ∗ ((wqM.view.loc (c : Thread nD τ) ↦[Finset.univ]{fullShare} wqs m c) -∗ ops m c)) := by
  unfold ops
  iintro ⟨Hi, Hq, Ho⟩
  isplitl [Hq]; · iexact Hq
  iintro Hq
  isplitl [Hi]; · iexact Hi
  isplitl [Hq] <;> iassumption
theorem ops_o (c : Dev nD) : ops m c ⊢ iprop((woM.view.loc (c : Thread nD τ) ↦[Finset.univ]{fullShare} wos m c)
    ∗ ((woM.view.loc (c : Thread nD τ) ↦[Finset.univ]{fullShare} wos m c) -∗ ops m c)) := by
  unfold ops
  iintro ⟨Hi, Hq, Ho⟩
  isplitl [Ho]; · iexact Ho
  iintro Ho
  isplitl [Hi]; · iexact Hi
  isplitl [Hq] <;> iassumption

omit [FloatOps F] in
theorem chain {A B C : sProp 𝕄} (h1 : A ⊢ B) (h2 : B ⊢ C) : A ⊢ C := h1.trans h2

/-- A local copy issued. -/
theorem step_start {α : Type} {R : sProp 𝕄} {Q : α → sProp 𝕄} (c : Dev nD) {s : Shape} {src : Memref sig .tc .hbm s .f32}
    {dst : Memref sig .tc .vmem s .f32} {sm : DmaSem sig} {hsrc hdst hsem} {kont : PUnit → Prog (TpuEff nD τ sig (Elt F) Λ₀ .tc) α}
    {fs : Buf (Elt F) (src.view.loc (c : Thread nD τ))} {fd w : Buf (Elt F) (dst.view.loc (c : Thread nD τ))} (hN : 0 < dst.view.dmaCredit)
    (hw : dst.view.write (Elt F) fd (src.view.read (Elt F) fs) Finset.univ = w)
    (h : iprop(Transfers.Flight EC (c : Thread nD τ) (.dma sm) () dst.view.dmaCredit
        iprop((dst.view.loc (c : Thread nD τ) ↦[Finset.univ]{fullShare} w) ∗ (src.view.loc (c : Thread nD τ) ↦[src.view.set]{fullShare} fs)) ∗ R)
      ⊢ WP c (kont ⟨⟩) Q) :
    iprop(((src.view.loc (c : Thread nD τ) ↦[src.view.set]{fullShare} fs) ∗ (dst.view.loc (c : Thread nD τ) ↦[Finset.univ]{fullShare} fd)
      ∗ semVal ((c : Thread nD τ), .dma sm) 0) ∗ R)
      ⊢ WP c (.op (.enqueueDma src (.here dst) (.dma sm) hsrc hdst hsem) kont) Q := by
  subst hw
  iintro ⟨⟨Hs, Hd, Hv⟩, HR⟩
  iapply (Transfers.wp_dmaLocal EC 𝒱₀ (c : Thread nD τ) none (src := src) (dst := dst) (via := .same) () dst.view.dmaCredit rfl hN (Finset.subset_univ _)) $$ [Hs Hd Hv]
  · isplitl [Hs]; · iexact Hs
    isplitl [Hd]; · iexact Hd
    iexact Hv
  iintro HF
  iapply h
  isplitl [HF]; · iexact HF
  iexact HR

/-- A local copy waited for. -/
theorem step_finish {α : Type} {D R : sProp 𝕄} {Q : α → sProp 𝕄} (c : Dev nD) {s s' : Shape} {e' : EltTy} {sp' : Space} {srcw : Memref sig .tc sp' s' e'}
    {dst : Memref sig .tc .vmem s .f32} {sm : DmaSem sig} (hq : sm.val < 6) {hsrc hdst} {kont : PUnit → Prog (TpuEff nD τ sig (Elt F) Λ₀ .tc) α}
    (h : iprop(D ∗ semVal ((c : Thread nD τ), .dma sm) 0 ∗ stA m K c 15 ∗ R) ⊢ WP c (kont ⟨⟩) Q) :
    iprop(Transfers.Flight EC (c : Thread nD τ) (.dma sm) () dst.view.dmaCredit D ∗ stA m K c 15 ∗ R)
      ⊢ WP c (.op (.waitDma2 sm srcw dst hsrc hdst) kont) Q := by
  unfold stA owesAny at h ⊢
  iintro ⟨HF, ⟨#Hrec, ⟨%W, HO⟩, HE⟩, HR⟩
  iapply (Transfers.wp_waitLocalO EC 𝒱₀ (c : Thread nD τ) none () rfl) $$ [HF HO]
  · isplitl [HF]; · iexact HF
    isplitl [HO]; · iexact HO
    iapply (records_mayWait_low m K c sm hq 15 0 0); iexact Hrec
  iintro ⟨HD, Hv, HO⟩
  iapply h
  isplitl [HD]; · iexact HD
  isplitl [Hv]; · iexact Hv
  isplitr [HR]
  · isplitr; · iexact Hrec
    isplitl [HO]; · iexists _; iexact HO
    iexact HE
  iexact HR

/-- The load of the partial product's buffer, whose value the body drops. -/
theorem step_ldAny {α : Type} {R : sProp 𝕄} {Q : α → sProp 𝕄} (c : Dev nD) {r : LoadRect S512x512} {hl}
    {kont : Vec F r.shape .f32 → Prog (TpuEff nD τ sig (Elt F) Λ₀ .tc) α} (h : ∀ v, iprop(aAny c ∗ R) ⊢ WP c (kont v) Q) :
    iprop(aAny c ∗ R) ⊢ WP c (.op (.load aM r hl) kont) Q := by
  unfold aAny at h ⊢
  iintro ⟨⟨%f, Hs⟩, HR⟩
  iapply (wp_load 𝒱₀ (c : Thread nD τ) none Set.univ (m := aM) (Finset.subset_univ _)) $$ Hs
  iintro Hs
  iapply (h _)
  isplitl [Hs]; · iexists f; iexact Hs
  iexact HR
/-- The same with the first 256 rows stored. -/
theorem step_ldTop {α : Type} {R : sProp 𝕄} {Q : α → sProp 𝕄} (c : Dev nD) {r : LoadRect S512x512} {hl}
    {kont : Vec F r.shape .f32 → Prog (TpuEff nD τ sig (Elt F) Λ₀ .tc) α} (h : ∀ v, iprop(aTop m c ∗ R) ⊢ WP c (kont v) Q) :
    iprop(aTop m c ∗ R) ⊢ WP c (.op (.load aM r hl) kont) Q := by
  unfold aTop at h ⊢
  iintro ⟨⟨%f, Hs⟩, HR⟩
  iapply (wp_load 𝒱₀ (c : Thread nD τ) none Set.univ (m := aM) (Finset.subset_univ _)) $$ Hs
  iintro Hs
  iapply (h _)
  isplitl [Hs]; · iexists f; iexact Hs
  iexact HR
/-- The store of the first 256 rows. -/
theorem step_stTop {α : Type} {R : sProp 𝕄} {Q : α → sProp 𝕄} (c : Dev nD) {kont : PUnit → Prog (TpuEff nD τ sig (Elt F) Λ₀ .tc) α}
    {hs} {hb} (h : iprop(aTop m c ∗ R) ⊢ WP c (kont ⟨⟩) Q) :
    iprop(aAny c ∗ R) ⊢ WP c (.op (.store aM (Rect.unit (s := S512x512) ![0, 0] S256x512.size inb_S512x512_S256x512_0_0)
      (accTop (xstg m c) (kstg m c) (vstg m c) (wqs m c) (wos m c)) Finset.univ hs hb) kont) Q := by
  unfold aAny
  unfold aTop at h
  iintro ⟨⟨%f, Hs⟩, HR⟩
  iapply (wp_store 𝒱₀ (c : Thread nD τ) none Set.univ (m := aM) (r := Rect.unit (s := S512x512) ![0, 0] S256x512.size inb_S512x512_S256x512_0_0) (Mk := Finset.univ) (S := Finset.univ) (Finset.subset_univ _)) $$ Hs
  iintro Hs
  iapply h
  isplitl [Hs]; · iexists f; iexact Hs
  iexact HR
/-- The store of the last 256 rows completes the partial product. -/
theorem step_stBot {α : Type} {R : sProp 𝕄} {Q : α → sProp 𝕄} (c : Dev nD) {kont : PUnit → Prog (TpuEff nD τ sig (Elt F) Λ₀ .tc) α}
    {hs} {hb} (h : iprop(aAll m c ∗ R) ⊢ WP c (kont ⟨⟩) Q) :
    iprop(aTop m c ∗ R) ⊢ WP c (.op (.store aM (Rect.unit (s := S512x512) ![256, 0] S256x512.size inb_S512x512_S256x512_256_0)
      (accBot (xstg m c) (kstg m c) (vstg m c) (wqs m c) (wos m c)) Finset.univ hs hb) kont) Q := by
  unfold aTop
  unfold aAll at h
  iintro ⟨⟨%f, Hs⟩, HR⟩
  iapply (wp_store 𝒱₀ (c : Thread nD τ) none Set.univ (m := aM) (r := Rect.unit (s := S512x512) ![256, 0] S256x512.size inb_S512x512_S256x512_256_0) (Mk := Finset.univ) (S := Finset.univ) (Finset.subset_univ _)) $$ Hs
  iintro Hs
  iapply h
  isplitl [Hs]
  · iapply (Entails.of_eq (congrArg (fun g => (aM.view.loc (c : Thread nD τ) ↦[Finset.univ]{fullShare} g : sProp 𝕄)) (stores_acc m c f))); iexact Hs
  iexact HR

/-! ## The parts -/

/-- The first five signals. -/
theorem part1_spec {R : sProp 𝕄} (c : Dev nD) {Q : _ → sProp 𝕄}
    (hQ : ∀ w w' w'', iprop(stA m K c 5 ∗ R) ⊢ Q ⟨c, w, (SemArray.scalar (sig.barrier 0 rfl) : Sems sig S_), w', w''⟩) :
    iprop(stA m K c 0 ∗ R) ⊢ WP c (atArgs (k0_part1 (F := F))) Q := by
  rw [k0_part1_eq_skeleton]
  unfold atArgs k0_part1_skel
  unfold WP
  simp only [semSignalWord, semWaitWord, Prog.lift, Prog.bind_op, Prog.bind_ret, Prog.pure_eq_ret, wp_deviceId]
  refine step_signal m K c _ (k := 0) (by decide) (Fin.ext (k0_dev1_eq c)) rfl rfl ?_
  refine step_signal m K c _ (k := 1) (by decide) (Fin.ext (k0_dev2_eq c)) rfl rfl ?_
  refine step_signal m K c _ (k := 2) (by decide) (Fin.ext (k0_dev3_eq c)) rfl rfl ?_
  refine step_signal m K c _ (k := 3) (by decide) (Fin.ext (k0_dev4_eq c)) rfl rfl ?_
  refine step_signal m K c _ (k := 4) (by decide) (Fin.ext (k0_dev5_eq c)) rfl rfl ?_
  exact step_ret c (hQ _ _ _)

/-- Six more signals. -/
theorem part2_spec {R : sProp 𝕄} (c : Dev nD) (v2 x y : BitVec 32) {Q : _ → sProp 𝕄}
    (hQ : ∀ w w', iprop(stA m K c 11 ∗ R) ⊢ Q ⟨w, w'⟩) :
    iprop(stA m K c 5 ∗ R) ⊢ WP c (atArgs (k0_part2 (F := F)) c v2 (SemArray.scalar (sig.barrier 0 rfl) : Sems sig S_) x y) Q := by
  rw [k0_part2_eq_skeleton]
  unfold atArgs k0_part2_skel
  simp only [semSignalWord, semWaitWord, Prog.lift, Prog.bind_op, Prog.bind_ret, Prog.pure_eq_ret]
  refine step_signal m K c _ (k := 5) (by decide) (Fin.ext (k0_dev6_eq c)) rfl rfl ?_
  refine step_signal m K c _ (k := 6) (by decide) (Fin.ext (k0_dev7_eq c)) rfl rfl ?_
  refine step_signal m K c _ (k := 7) (by decide) (Fin.ext (k0_dev8_eq c)) rfl rfl ?_
  refine step_signal m K c _ (k := 8) (by decide) (Fin.ext (k0_dev9_eq c)) rfl rfl ?_
  refine step_signal m K c _ (k := 9) (by decide) (Fin.ext (k0_dev10_eq c)) rfl rfl ?_
  refine step_signal m K c _ (k := 10) (by decide) (Fin.ext (k0_dev11_eq c)) rfl rfl ?_
  exact step_ret c (hQ _ _)

/-- The last four signals, the two local copies issued, and the first waited for. -/
theorem part3_spec {R : sProp 𝕄} (c : Dev nD) (v2 x y : BitVec 32) {Q : _ → sProp 𝕄}
    (hQ : iprop(stA m K c 15 ∗ cp1 m c ∗ R) ⊢ Q ⟨⟩) :
    iprop(stA m K c 11 ∗ cp0 m c ∗ R) ⊢ WP c (atArgs (k0_part3 (F := F)) c v2 (SemArray.scalar (sig.barrier 0 rfl) : Sems sig S_) x y) Q := by
  rw [k0_part3_eq_skeleton]
  unfold atArgs k0_part3_skel
  simp only [semSignalWord, semWaitWord, Prog.lift, Prog.bind_op, Prog.bind_ret, Prog.pure_eq_ret]
  refine step_signal m K c _ (k := 11) (by decide) (Fin.ext (k0_dev12_eq c)) rfl rfl ?_
  refine step_signal m K c _ (k := 12) (by decide) (Fin.ext (k0_dev13_eq c)) rfl rfl ?_
  refine step_signal m K c _ (k := 13) (by decide) (Fin.ext (k0_dev14_eq c)) rfl rfl ?_
  refine step_signal m K c _ (k := 14) (by decide) (Fin.ext (k0_dev15_eq c)) rfl rfl ?_
  unfold cp0
  refine chain (B := iprop(∃ f g, (((gqRow c).view.loc (c : Thread nD τ) ↦[(gqRow c).view.set]{fullShare} m ((c : Thread nD τ).loc main_arg1)) ∗ (wqM.view.loc (c : Thread nD τ) ↦[Finset.univ]{fullShare} f) ∗ semVal ((c : Thread nD τ), .dma lS0) 0)
      ∗ ((goRow c).view.loc (c : Thread nD τ) ↦[(goRow c).view.set]{fullShare} m ((c : Thread nD τ).loc main_arg4)) ∗ (woM.view.loc (c : Thread nD τ) ↦[Finset.univ]{fullShare} g) ∗ semVal ((c : Thread nD τ), .dma lS1) 0 ∗ stA m K c 15 ∗ R)) ?_ ?_
  · iintro ⟨HA, ⟨Hq, Ho, ⟨%f, Hwq⟩, ⟨%g, Hwo⟩, H0, H1⟩, HR⟩
    iexists f; iexists g
    isplitl [Hq Hwq H0]
    · isplitl [Hq]; · iexact Hq
      isplitl [Hwq] <;> iassumption
    isplitl [Ho]; · iexact Ho
    isplitl [Hwo]; · iexact Hwo
    isplitl [H1]; · iexact H1
    isplitl [HA] <;> iassumption
  refine exists_elim fun f => exists_elim fun g => ?_
  refine step_start c (w := wqs m c) (View.dmaCredit_pos _ (by decide)) (View.write_whole_univ _ _ _) ?_
  refine chain (B := iprop((((goRow c).view.loc (c : Thread nD τ) ↦[(goRow c).view.set]{fullShare} m ((c : Thread nD τ).loc main_arg4)) ∗ (woM.view.loc (c : Thread nD τ) ↦[Finset.univ]{fullShare} g) ∗ semVal ((c : Thread nD τ), .dma lS1) 0)
      ∗ Transfers.Flight EC (c : Thread nD τ) (.dma lS0) () wqM.view.dmaCredit iprop((wqM.view.loc (c : Thread nD τ) ↦[Finset.univ]{fullShare} wqs m c)
        ∗ ((gqRow c).view.loc (c : Thread nD τ) ↦[(gqRow c).view.set]{fullShare} m ((c : Thread nD τ).loc main_arg1))) ∗ stA m K c 15 ∗ R)) ?_ ?_
  · iintro ⟨HF, Ho, Hwo, H1, HA, HR⟩
    isplitl [Ho Hwo H1]
    · isplitl [Ho]; · iexact Ho
      isplitl [Hwo] <;> iassumption
    isplitl [HF]; · iexact HF
    isplitl [HA] <;> iassumption
  refine step_start c (w := wos m c) (View.dmaCredit_pos _ (by decide)) (View.write_whole_univ _ _ _) ?_
  refine swap.trans ?_
  refine chain (B := iprop(Transfers.Flight EC (c : Thread nD τ) (.dma lS0) () wqM.view.dmaCredit iprop((wqM.view.loc (c : Thread nD τ) ↦[Finset.univ]{fullShare} wqs m c)
        ∗ ((gqRow c).view.loc (c : Thread nD τ) ↦[(gqRow c).view.set]{fullShare} m ((c : Thread nD τ).loc main_arg1))) ∗ stA m K c 15
      ∗ Transfers.Flight EC (c : Thread nD τ) (.dma lS1) () woM.view.dmaCredit iprop((woM.view.loc (c : Thread nD τ) ↦[Finset.univ]{fullShare} wos m c)
        ∗ ((goRow c).view.loc (c : Thread nD τ) ↦[(goRow c).view.set]{fullShare} m ((c : Thread nD τ).loc main_arg4))) ∗ R)) ?_ ?_
  · iintro ⟨HF, HG, HA, HR⟩
    isplitl [HF]; · iexact HF
    isplitl [HA]; · iexact HA
    isplitl [HG] <;> iassumption
  refine step_finish m K c (by decide) ?_
  refine chain ?_ (step_ret c hQ)
  unfold cp1
  iintro ⟨⟨Hwq, Hq⟩, H0, HA, HG, HR⟩
  isplitl [HA]; · iexact HA
  isplitr [HR]
  · isplitl [Hq]; · iexact Hq
    isplitl [Hwq]; · iexact Hwq
    isplitl [H0] <;> iassumption
  iexact HR

/-- The second copy waited for, and the first 256 rows' projection and first head. -/
theorem part4_spec {R : sProp 𝕄} (c : Dev nD) {Q : _ → sProp 𝕄}
    (hQ : iprop(ops m c ∗ cp2 m c ∗ stA m K c 15 ∗ R) ⊢ Q ⟨k0_pay1, q0 (xstg m c) (wqs m c), k0_pay3 (F := F), c00 (xstg m c) (kstg m c) (vstg m c) (wqs m c)⟩) :
    iprop(cp1 m c ∗ stA m K c 15 ∗ opI m c ∗ R) ⊢ WP c (atArgs (k0_part4 (F := F)) c) Q := by
  rw [k0_part4_eq_skeleton]
  unfold atArgs k0_part4_skel
  simp only [semSignalWord, semWaitWord, Prog.lift, Prog.bind_op, Prog.bind_ret, Prog.pure_eq_ret]
  unfold cp1
  refine chain (B := iprop(Transfers.Flight EC (c : Thread nD τ) (.dma lS1) () woM.view.dmaCredit iprop((woM.view.loc (c : Thread nD τ) ↦[Finset.univ]{fullShare} wos m c)
        ∗ ((goRow c).view.loc (c : Thread nD τ) ↦[(goRow c).view.set]{fullShare} m ((c : Thread nD τ).loc main_arg4))) ∗ stA m K c 15
      ∗ ((gqRow c).view.loc (c : Thread nD τ) ↦[(gqRow c).view.set]{fullShare} m ((c : Thread nD τ).loc main_arg1)) ∗ (wqM.view.loc (c : Thread nD τ) ↦[Finset.univ]{fullShare} wqs m c)
      ∗ semVal ((c : Thread nD τ), .dma lS0) 0 ∗ opI m c ∗ R)) ?_ ?_
  · iintro ⟨⟨Hq, Hwq, H0, HG⟩, HA, HI, HR⟩
    isplitl [HG]; · iexact HG
    isplitl [HA]; · iexact HA
    isplitl [Hq]; · iexact Hq
    isplitl [Hwq]; · iexact Hwq
    isplitl [H0]; · iexact H0
    isplitl [HI] <;> iassumption
  refine step_finish m K c (by decide) ?_
  refine chain (B := iprop(ops m c ∗ cp2 m c ∗ stA m K c 15 ∗ R)) ?_ ?_
  · unfold ops cp2
    iintro ⟨⟨Hwo, Ho⟩, H1, HA, Hq, Hwq, H0, HI, HR⟩
    isplitl [HI Hwq Hwo]
    · isplitl [HI]; · iexact HI
      isplitl [Hwq] <;> iassumption
    isplitl [Ho H1 Hq H0]
    · isplitl [Hq]; · iexact Hq
      isplitl [Ho]; · iexact Ho
      isplitl [H0] <;> iassumption
    isplitl [HA] <;> iassumption
  refine step_ld c (ops_x m c) ?_
  refine step_ld c (ops_q m c) ?_
  refine step_ld c (ops_k m c) ?_
  refine step_ld c (ops_v m c) ?_
  exact step_ret c hQ

/-- The first 256 rows: the first two heads, and the third head's scores. -/
theorem part5_spec {R : sProp 𝕄} (c : Dev nD) {Q : _ → sProp 𝕄}
    (hQ : iprop(ops m c ∗ R) ⊢ Q ⟨s01 (xstg m c) (kstg m c) (vstg m c) (wqs m c) (wos m c), k0_pay6 (ldK02 (vstg m c)), k0_pay7 (q0 (xstg m c) (wqs m c)) (ldK02 (kstg m c)), Scalar.ofBits .f32 0x3E000000#32⟩) :
    iprop(ops m c ∗ R) ⊢ WP c (atArgs (k0_part5 (F := F)) k0_pay1 (q0 (xstg m c) (wqs m c)) (k0_pay3 (F := F)) (c00 (xstg m c) (kstg m c) (vstg m c) (wqs m c))) Q := by
  rw [k0_part5_eq_skeleton]
  unfold atArgs k0_part5_skel
  simp only [semSignalWord, semWaitWord, Prog.lift, Prog.bind_op, Prog.bind_ret, Prog.pure_eq_ret]
  refine step_ld c (ops_o m c) ?_
  refine step_ld c (ops_k m c) ?_
  refine step_ld c (ops_v m c) ?_
  refine step_ld c (ops_o m c) ?_
  refine step_ld c (ops_k m c) ?_
  refine step_ld c (ops_v m c) ?_
  exact step_ret c hQ

/-- The first 256 rows: the third head, and the fourth head's context. -/
theorem part6_spec {R : sProp 𝕄} (c : Dev nD) {Q : _ → sProp 𝕄}
    (hQ : iprop(ops m c ∗ R) ⊢ Q ⟨s02 (xstg m c) (kstg m c) (vstg m c) (wqs m c) (wos m c), k0_pay9 k0_pay1 (q0 (xstg m c) (wqs m c)) (ldK03 (kstg m c)) (ldK03 (vstg m c))⟩) :
    iprop(ops m c ∗ R) ⊢ WP c (atArgs (k0_part6 (F := F)) k0_pay1 (q0 (xstg m c) (wqs m c)) (s01 (xstg m c) (kstg m c) (vstg m c) (wqs m c) (wos m c)) (k0_pay6 (ldK02 (vstg m c))) (k0_pay7 (q0 (xstg m c) (wqs m c)) (ldK02 (kstg m c))) (Scalar.ofBits .f32 0x3E000000#32)) Q := by
  rw [k0_part6_eq_skeleton]
  unfold atArgs k0_part6_skel
  simp only [semSignalWord, semWaitWord, Prog.lift, Prog.bind_op, Prog.bind_ret, Prog.pure_eq_ret]
  refine step_ld c (ops_o m c) ?_
  refine step_ld c (ops_k m c) ?_
  refine step_ld c (ops_v m c) ?_
  exact step_ret c hQ

/-- The first 256 rows stored, and the last 256 rows' projection and first head. -/
theorem part7_spec {R : sProp 𝕄} (c : Dev nD) {Q : _ → sProp 𝕄}
    (hQ : iprop(ops m c ∗ aTop m c ∗ R) ⊢ Q ⟨q1 (xstg m c) (wqs m c), k0_pay12 (F := F), k0_pay13 k0_pay1 (ldX1 (xstg m c)) (ldWq (wqs m c)) (ldK10 (kstg m c)) (ldK10 (vstg m c)), ldWo0 (wos m c), (constant S256x512 .f32 0x00000000#32)⟩) :
    iprop(ops m c ∗ aAny c ∗ R) ⊢ WP c (atArgs (k0_part7 (F := F)) k0_pay1 (s02 (xstg m c) (kstg m c) (vstg m c) (wqs m c) (wos m c)) (k0_pay9 k0_pay1 (q0 (xstg m c) (wqs m c)) (ldK03 (kstg m c)) (ldK03 (vstg m c)))) Q := by
  rw [k0_part7_eq_skeleton]
  unfold atArgs k0_part7_skel
  simp only [semSignalWord, semWaitWord, Prog.lift, Prog.bind_op, Prog.bind_ret, Prog.pure_eq_ret]
  refine step_ld c (ops_o m c) ?_
  refine swap.trans (step_ldAny c fun _ => step_stTop m c (swap.trans ?_))
  refine step_ld c (ops_x m c) ?_
  refine step_ld c (ops_q m c) ?_
  refine step_ld c (ops_k m c) ?_
  refine step_ld c (ops_v m c) ?_
  refine step_ld c (ops_o m c) ?_
  exact step_ret c hQ

/-- The last 256 rows: the first two heads, and the third head's scores. -/
theorem part8_spec {R : sProp 𝕄} (c : Dev nD) {Q : _ → sProp 𝕄}
    (hQ : iprop(ops m c ∗ R) ⊢ Q ⟨s11 (xstg m c) (kstg m c) (vstg m c) (wqs m c) (wos m c), k0_pay15 (ldK12 (vstg m c)), k0_pay16 (q1 (xstg m c) (wqs m c)) (ldK12 (kstg m c))⟩) :
    iprop(ops m c ∗ R) ⊢ WP c (atArgs (k0_part8 (F := F)) k0_pay1 (q1 (xstg m c) (wqs m c)) (k0_pay12 (F := F)) (k0_pay13 k0_pay1 (ldX1 (xstg m c)) (ldWq (wqs m c)) (ldK10 (kstg m c)) (ldK10 (vstg m c))) (ldWo0 (wos m c)) (constant S256x512 .f32 0x00000000#32)) Q := by
  rw [k0_part8_eq_skeleton]
  unfold atArgs k0_part8_skel
  simp only [semSignalWord, semWaitWord, Prog.lift, Prog.bind_op, Prog.bind_ret, Prog.pure_eq_ret]
  refine step_ld c (ops_k m c) ?_
  refine step_ld c (ops_v m c) ?_
  refine step_ld c (ops_o m c) ?_
  refine step_ld c (ops_k m c) ?_
  refine step_ld c (ops_v m c) ?_
  exact step_ret c hQ

/-- The last 256 rows: the third head, and the fourth head's context. -/
theorem part9_spec {R : sProp 𝕄} (c : Dev nD) {Q : _ → sProp 𝕄}
    (hQ : iprop(ops m c ∗ R) ⊢ Q ⟨s12 (xstg m c) (kstg m c) (vstg m c) (wqs m c) (wos m c), k0_pay18 k0_pay1 (q1 (xstg m c) (wqs m c)) (ldK13 (kstg m c)) (ldK13 (vstg m c)), ldWo3 (wos m c), (constant S256x512 .f32 0x00000000#32)⟩) :
    iprop(ops m c ∗ R) ⊢ WP c (atArgs (k0_part9 (F := F)) k0_pay1 (q1 (xstg m c) (wqs m c)) (s11 (xstg m c) (kstg m c) (vstg m c) (wqs m c) (wos m c)) (k0_pay15 (ldK12 (vstg m c))) (k0_pay16 (q1 (xstg m c) (wqs m c)) (ldK12 (kstg m c)))) Q := by
  rw [k0_part9_eq_skeleton]
  unfold atArgs k0_part9_skel
  simp only [semSignalWord, semWaitWord, Prog.lift, Prog.bind_op, Prog.bind_ret, Prog.pure_eq_ret]
  refine step_ld c (ops_o m c) ?_
  refine step_ld c (ops_k m c) ?_
  refine step_ld c (ops_v m c) ?_
  refine step_ld c (ops_o m c) ?_
  exact step_ret c hQ

/-- The last 256 rows stored, the barrier passed, and the first two sends of the reduction. -/
theorem part10_spec {R : sProp 𝕄} (c : Dev nD) {R' : sProp 𝕄} (v2 : BitVec 32) {Q : _ → sProp 𝕄}
    (hT : iprop((records m K ∗ owesAny c (Ow c 15 0 0) ∗ atPos ER (barCell c) 1 ∅ 0
      ∗ bigSep (Finset.univ.erase c) (fun d => iprop(slotAny (F := F) d c ∗ oAny d c))) ∗ aAll m c ∗ R) ⊢ iprop(stB m K c 0 ∗ R'))
    (hQ : ∀ w w', iprop(stB m K c 2 ∗ R') ⊢ Q ⟨w, w'⟩) :
    iprop(aTop m c ∗ (stA m K c 15 ∗ cred (tallyAt (barCell c) () 15) ∗ atPos ER (barCell c) 0 ∅ 0) ∗ R) ⊢ WP c (atArgs (k0_part10 (F := F)) c v2 (SemArray.scalar (sig.barrier 0 rfl) : Sems sig S_) (s12 (xstg m c) (kstg m c) (vstg m c) (wqs m c) (wos m c)) (k0_pay18 k0_pay1 (q1 (xstg m c) (wqs m c)) (ldK13 (kstg m c)) (ldK13 (vstg m c))) (ldWo3 (wos m c)) (constant S256x512 .f32 0x00000000#32)) Q := by
  rw [k0_part10_eq_skeleton]
  unfold atArgs k0_part10_skel
  simp only [semSignalWord, semWaitWord, Prog.lift, Prog.bind_op, Prog.bind_ret, Prog.pure_eq_ret]
  refine step_ldTop m c fun _ => step_stBot m c (swap.trans (step_barrier m K c rfl rfl (hT.trans ?_)))
  refine step_rs m K c _ 0 (k0_dev16_eq c) ?_
  refine step_rs m K c _ 1 (k0_dev17_eq c) ?_
  exact step_ret c (hQ _ _)

end Cert.KernelIdealProof

end
-- ==== Proof.Peers.lean ====
/-
# Peers — families over a device's fifteen peers, and the buffers cut along them

A family over all devices is its member at a device beside the family over that device's peers. The partial product, the landing
buffer and the result, each held whole, are their sixteen pieces.
-/
module

public import proofs.«01_k».proof.Proof.Compute

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the peers -/

section Families

omit [FloatOps F]

theorem erase_peers (c : Dev nD) : (Finset.univ.erase c : Finset (Dev nD)) = (Finset.range 15).image (peer c) := by
  ext t
  rw [Finset.mem_erase, Finset.mem_image]
  constructor
  · rintro ⟨h, -⟩
    obtain ⟨j, hj, e⟩ := exists_peer c t h
    exact ⟨j, Finset.mem_range.mpr hj, e⟩
  · rintro ⟨j, hj, rfl⟩
    exact ⟨peer_ne c (Finset.mem_range.mp hj), Finset.mem_univ _⟩

theorem image_peers {s : Finset ℕ} (c : Dev nD) (hs : s ⊆ Finset.range 15) (Ψ : Dev nD → sProp 𝕄) :
    bigSep (s.image (peer c)) Ψ = bigSep s fun a => Ψ (peer c a) := by
  induction s using Finset.induction_on with
  | empty => rw [Finset.image_empty, bigSep_empty, bigSep_empty]
  | insert a s ha ih =>
    have hs' := Finset.insert_subset_iff.mp hs
    rw [Finset.image_insert, bigSep_insert (fun hm => ?_), bigSep_insert ha, ih hs'.2]
    obtain ⟨b, hb, e⟩ := Finset.mem_image.mp hm
    exact ha (peer_inj c (Finset.mem_range.mp (hs'.2 hb)) (Finset.mem_range.mp hs'.1) e ▸ hb)

/-- The family over the other devices, in the kernel's order. -/
theorem others_eq (c : Dev nD) (Ψ : Dev nD → sProp 𝕄) :
    bigSep (Finset.univ.erase c) Ψ = bigSep (Finset.range 15) fun a => Ψ (peer c a) := by
  rw [erase_peers, image_peers c (Finset.Subset.refl _)]

/-- The family over all devices: a device's own member, and its peers'. -/
theorem all_eq (c : Dev nD) (Ψ : Dev nD → sProp 𝕄) :
    bigSep Finset.univ Ψ = iprop(Ψ c ∗ bigSep (Finset.range 15) fun a => Ψ (peer c a)) := by
  rw [← others_eq]
  exact bigSep_univ_split c

end Families

/-! ## The buffers cut -/

theorem aAll_eq (c : Dev nD) : aAll m c = bigSep Finset.univ (aPts m c) := by
  unfold aAll
  have h : (aM.view.loc (c : Thread nD τ) ↦[(Finset.univ : Finset (Dev nD)).biUnion fun t => (rowRect t).set]{fullShare} accBuf m c : sProp 𝕄)
      = bigSep Finset.univ fun t => (aM.view.loc (c : Thread nD τ) ↦[(rowRect t).set]{fullShare} accBuf m c : sProp 𝕄) :=
    pointsTo_biUnion _ _ fun t _ t' _ hne => rows_disjoint t t' hne
  rw [rows_cover] at h
  rw [h]
  exact bigSep_congr fun t _ => by unfold aPts; rw [aRow_set]

theorem outAll_eq (c : Dev nD) : (oM.view.loc (c : Thread nD τ) ↦[Finset.univ]{fullShare} outBuf m : sProp 𝕄)
    = bigSep Finset.univ (oPts m fullShare c) := by
  have h : (oM.view.loc (c : Thread nD τ) ↦[(Finset.univ : Finset (Dev nD)).biUnion fun t => (rowRect t).set]{fullShare} outBuf m : sProp 𝕄)
      = bigSep Finset.univ fun t => (oM.view.loc (c : Thread nD τ) ↦[(rowRect t).set]{fullShare} outBuf m : sProp 𝕄) :=
    pointsTo_biUnion _ _ fun t _ t' _ hne => rows_disjoint t t' hne
  rw [rows_cover] at h
  rw [h]
  exact bigSep_congr fun t _ => by unfold oPts; rw [oRow_set]

omit [FloatOps F] in
theorem oAny_intro (c t : Dev nD) (f : Buf (Elt F) (oM.view.loc (c : Thread nD τ))) :
    (oM.view.loc (c : Thread nD τ) ↦[(rowRect t).set]{fullShare} f : sProp 𝕄) ⊢ oAny c t := by
  unfold oAny
  rw [oRow_set]
  iintro H
  iexists f
  iexact H

omit [FloatOps F] in
theorem slotAny_intro (c t : Dev nD) (f : Buf (Elt F) (cM.view.loc (c : Thread nD τ))) :
    (cM.view.loc (c : Thread nD τ) ↦[(slotRect t).set]{fullShare} f : sProp 𝕄) ⊢ slotAny c t := by
  unfold slotAny
  rw [slot_set]
  iintro H
  iexists f
  iexact H

omit [FloatOps F] in
theorem outAny_split (c : Dev nD) : iprop(∃ f, oM.view.loc (c : Thread nD τ) ↦[Finset.univ]{fullShare} f) ⊢ (bigSep Finset.univ (oAny c) : sProp 𝕄) := by
  iintro ⟨%f, H⟩
  have h : (oM.view.loc (c : Thread nD τ) ↦[(Finset.univ : Finset (Dev nD)).biUnion fun t => (rowRect t).set]{fullShare} f : sProp 𝕄)
      = bigSep Finset.univ fun t => (oM.view.loc (c : Thread nD τ) ↦[(rowRect t).set]{fullShare} f : sProp 𝕄) :=
    pointsTo_biUnion _ _ fun t _ t' _ hne => rows_disjoint t t' hne
  rw [rows_cover] at h
  have h2 : (oM.view.loc (c : Thread nD τ) ↦[Finset.univ]{fullShare} f : sProp 𝕄) ⊢ bigSep Finset.univ (oAny c) := by
    rw [h]
    exact bigSep_mono fun t _ => oAny_intro c t f
  iapply h2
  iexact H

omit [FloatOps F] in
theorem slots_split (c : Dev nD) : iprop(∃ f, cM.view.loc (c : Thread nD τ) ↦[Finset.univ]{fullShare} f) ⊢ (bigSep Finset.univ (slotAny c) : sProp 𝕄) := by
  iintro ⟨%f, H⟩
  have h : (cM.view.loc (c : Thread nD τ) ↦[(Finset.univ : Finset (Dev nD)).biUnion fun t => (slotRect t).set]{fullShare} f : sProp 𝕄)
      = bigSep Finset.univ fun t => (cM.view.loc (c : Thread nD τ) ↦[(slotRect t).set]{fullShare} f : sProp 𝕄) :=
    pointsTo_biUnion _ _ fun t _ t' _ hne => slots_disjoint t t' hne
  rw [slots_cover] at h
  have h2 : (cM.view.loc (c : Thread nD τ) ↦[Finset.univ]{fullShare} f : sProp 𝕄) ⊢ bigSep Finset.univ (slotAny c) := by
    rw [h]
    exact bigSep_mono fun t _ => slotAny_intro c t f
  iapply h2
  iexact H

omit [FloatOps F] in
theorem choose_family {V : Type} (v : V) (P : Dev nD → V → sProp 𝕄) :
    (bigSep Finset.univ fun t => iprop(∃ f, P t f)) ⊢ iprop(∃ fs : Dev nD → V, bigSep Finset.univ fun t => P t (fs t)) :=
  haveI : Nonempty V := ⟨v⟩
  BI.bigSep_exists_pi Finset.univ (fun (t : Dev nD) (f : V) => P t f)

omit [FloatOps F] in
theorem slots_join (c : Dev nD) (f₀ : Buf (Elt F) (cM.view.loc (c : Thread nD τ))) :
    (bigSep Finset.univ (slotAny c) : sProp 𝕄) ⊢ iprop(∃ f, cM.view.loc (c : Thread nD τ) ↦[Finset.univ]{fullShare} f) := by
  iintro H
  have h1 : (bigSep Finset.univ (slotAny c) : sProp 𝕄) ⊢ bigSep Finset.univ fun t : Dev nD =>
      iprop(∃ f : Buf (Elt F) (cM.view.loc (c : Thread nD τ)), cM.view.loc (c : Thread nD τ) ↦[(slotRect t).set]{fullShare} f) :=
    bigSep_mono fun t _ => by unfold slotAny; rw [slot_set]; exact BI.Entails.refl _
  have h2 : ∀ fs : Dev nD → Buf (Elt F) (cM.view.loc (c : Thread nD τ)),
      (bigSep Finset.univ fun t => cM.view.loc (c : Thread nD τ) ↦[(slotRect t).set]{fullShare} fs t)
        ⊢ (iprop(∃ g, ⌜∀ t ∈ (Finset.univ : Finset (Dev nD)), ∀ i ∈ (slotRect t).set, g i = fs t i⌝
          ∗ cM.view.loc (c : Thread nD τ) ↦[(Finset.univ : Finset (Dev nD)).biUnion fun t => (slotRect t).set]{fullShare} g) : sProp 𝕄) := fun fs =>
    pointsTo_biUnion_join _ _ fs f₀ fun t _ t' _ hne => slots_disjoint t t' hne
  rw [slots_cover] at h2
  ihave H := h1 $$ H
  ihave H := (choose_family f₀ (fun (t : Dev nD) (f : Buf (Elt F) (cM.view.loc (c : Thread nD τ))) =>
    (cM.view.loc (c : Thread nD τ) ↦[(slotRect t).set]{fullShare} f : sProp 𝕄))) $$ H
  icases H with ⟨%fs, H⟩
  ihave H := (h2 fs) $$ H
  icases H with ⟨%g, -, H⟩
  iexists g
  iexact H

theorem slotPts_any (c t : Dev nD) : slotPts m c t ⊢ slotAny c t := by
  unfold slotPts slotAny
  iintro H
  iexists (commBuf m c)
  iexact H

/-- The pieces of a device's own row block, with what is left of it, are the row block. -/
theorem own_join (c : Dev nD) (k : ℕ) :
    iprop((bigSep (Finset.range k) fun a => oPts m (pieceShare a) c c) ∗ oPts m (remShare k) c c) ⊢ oPts m fullShare c c := by
  induction k with
  | zero =>
    iintro ⟨-, H⟩
    iexact H
  | succ k ih =>
    rw [bigSep_range_succ k (fun a => oPts m (pieceShare a) c c)]
    iintro ⟨⟨Hp, Hrest⟩, Hr⟩
    iapply ih
    isplitl [Hrest]; · iexact Hrest
    iapply (oPts_split m c k).2
    isplitl [Hp] <;> iassumption

end Cert.KernelIdealProof

end
-- ==== Proof.Phases.lean ====
/-
# Phases — from the last state of each phase of the exchange to the first of the next

What a device holds between the phases, and the rearrangements that lead from one phase's end to the next one's start.
-/
module

public import proofs.«01_k».proof.Proof.Peers

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of tokens and positions -/

section Fam

omit [FloatOps F]

/-- The token of the unit a device signals to its peer `a`. -/
def tokA (c : Dev nD) (a : ℕ) : sProp 𝕄 := dutyTok ER (barCell (peer c a)) 0 c
/-- The tokens of the first transfer to peer `a`. -/
def tokB (c : Dev nD) (a : ℕ) : sProp 𝕄 := iprop(dutyTok ER (cell 0 c (peer c a)) 0 c ∗ dutyTok ER (cell 1 (peer c a) c) 0 c)
/-- The tokens of the second transfer to peer `a`. -/
def tokE (c : Dev nD) (a : ℕ) : sProp 𝕄 := iprop(dutyTok ER (cell 0 c (peer c a)) 1 c ∗ dutyTok ER (cell 2 (peer c a) c) 0 c)
/-- A device's position on cell `a` of family `j`. -/
def posJ (j : Fin 3) (r : ℕ) (c : Dev nD) (a : ℕ) : sProp 𝕄 := atPos ER (cell j c (peer c a)) r ∅ 0
/-- The credit of cell `a` of family `j`. -/
def credJ (j : Fin 3) (c : Dev nD) (a : ℕ) : sProp 𝕄 := cred (tallyAt (cell j c (peer c a)) () N)
/-- A device's positions on the three cells no transfer uses. -/
def selfPos (c : Dev nD) : sProp 𝕄 :=
  iprop(atPos ER (cell 0 c c) 0 ∅ 0 ∗ atPos ER (cell 1 c c) 0 ∅ 0 ∗ atPos ER (cell 2 c c) 0 ∅ 0)

theorem bigSep_three (Ψ : Fin 3 → sProp 𝕄) : bigSep Finset.univ Ψ = iprop(Ψ 0 ∗ Ψ 1 ∗ Ψ 2) :=
  bigSep_univ_eq_bigSepL [0, 1, 2] (by decide) (by decide) Ψ

/-- A family over one device's cells, cell by cell. -/
theorem cells_eq (c : Dev nD) (Ψ : CK → sProp 𝕄) : bigSep Finset.univ Ψ = iprop(Ψ (.inl ())
    ∗ (Ψ (.inr (0, c)) ∗ bigSep (Finset.range 15) fun a => Ψ (.inr (0, peer c a)))
    ∗ (Ψ (.inr (1, c)) ∗ bigSep (Finset.range 15) fun a => Ψ (.inr (1, peer c a)))
    ∗ (Ψ (.inr (2, c)) ∗ bigSep (Finset.range 15) fun a => Ψ (.inr (2, peer c a)))) := by
  have h1 : bigSep Finset.univ Ψ = iprop(bigSep Finset.univ (fun u : Unit => Ψ (.inl u)) ∗ bigSep Finset.univ (fun p : Fin 3 × Dev nD => Ψ (.inr p))) :=
    BI.bigSep_univ_sum Ψ
  have h2 : bigSep Finset.univ (fun p : Fin 3 × Dev nD => Ψ (.inr p)) = bigSep Finset.univ fun j : Fin 3 => bigSep Finset.univ fun t : Dev nD => Ψ (.inr (j, t)) :=
    bigSep_univ_prod (fun p : Fin 3 × Dev nD => Ψ (.inr p))
  rw [h1, h2, BI.bigSep_univ_of_subsingleton (i := ()), bigSep_three, all_eq c (fun t => Ψ (.inr (0, t))), all_eq c (fun t => Ψ (.inr (1, t))),
    all_eq c (fun t => Ψ (.inr (2, t)))]

theorem famA_eq (c : Dev nD) : bigSep (Finset.range 15) (famA (F := F) c)
    = iprop(bigSep (Finset.range 15) (tokA c) ∗ bigSep (Finset.range 15) (fun a => slotAny c (peer c a)) ∗ bigSep (Finset.range 15) (fun a => oAny c (peer c a))) := by
  rw [← bigSep_sep', ← bigSep_sep']; rfl
theorem famW_eq (j : Fin 3) (r : ℕ) (c : Dev nD) : bigSep (Finset.range 15) (famW (F := F) j r c)
    = iprop(bigSep (Finset.range 15) (credJ j c) ∗ bigSep (Finset.range 15) (posJ j r c)) := by
  rw [← bigSep_sep']; rfl
theorem pastW_eq (j : Fin 3) (r : ℕ) (c : Dev nD) : bigSep (Finset.range 15) (pastW (F := F) j r c)
    = iprop(bigSep (Finset.range 15) (posJ j (r + 1) c) ∗ bigSep (Finset.range 15) (fun a => reached ER (cell j c (peer c a)) (r + 1))) := by
  rw [← bigSep_sep']; rfl
theorem four_eq (A B C D : sProp 𝕄) : iprop(A ∗ B ∗ C ∗ D) = iprop(A ∗ (B ∗ C) ∗ D) := by
  have h1 : iprop(A ∗ B ∗ C ∗ D) ⊢ iprop(A ∗ (B ∗ C) ∗ D) := by
    iintro ⟨H1, H2, H3, H4⟩
    isplitl [H1]; · iexact H1
    isplitr [H4]
    · isplitl [H2] <;> iassumption
    iexact H4
  have h2 : iprop(A ∗ (B ∗ C) ∗ D) ⊢ iprop(A ∗ B ∗ C ∗ D) := by
    iintro ⟨H1, ⟨H2, H3⟩, H4⟩
    isplitl [H1]; · iexact H1
    isplitl [H2]; · iexact H2
    isplitl [H3] <;> iassumption
  exact equiv_iff.mp ⟨h1, h2⟩
theorem famE_eq (c : Dev nD) : bigSep (Finset.range 15) (famE (F := F) c)
    = iprop(bigSep (Finset.range 15) (fun a => reached ER (cell 0 c (peer c a)) 1) ∗ bigSep (Finset.range 15) (tokE c)
      ∗ bigSep (Finset.range 15) (fun a => oAny (peer c a) c)) := by
  rw [← bigSep_sep', ← bigSep_sep']
  exact bigSep_congr fun a _ => four_eq _ _ _ _

end Fam

theorem famB_eq (c : Dev nD) : bigSep (Finset.range 15) (famB m c)
    = iprop(bigSep (Finset.range 15) (fun a => aPts m c (peer c a)) ∗ bigSep (Finset.range 15) (fun a => slotAny (peer c a) c)
      ∗ bigSep (Finset.range 15) (tokB c)) := by
  rw [← bigSep_sep', ← bigSep_sep']; rfl

/-! ## What lies beside the states -/

/-- The weights, away from the device's slices. -/
def wRest (c : Dev nD) : sProp 𝕄 :=
  iprop(((gqRow c).view.loc (c : Thread nD τ) ↦[Finset.univ \ (gqRow c).view.set]{fullShare} m ((c : Thread nD τ).loc main_arg1))
    ∗ ((goRow c).view.loc (c : Thread nD τ) ↦[Finset.univ \ (goRow c).view.set]{fullShare} m ((c : Thread nD τ).loc main_arg4)))
/-- What no later phase changes. -/
def base (c : Dev nD) : sProp 𝕄 :=
  iprop(atPos ER (barCell c) 1 ∅ 0 ∗ ops m c ∗ cp2 m c ∗ selfPos c ∗ slotAny c c ∗ wRest m c)

/-- Beside the first ten parts. -/
def restA (c : Dev nD) : sProp 𝕄 :=
  iprop(selfPos c ∗ slotAny c c ∗ wRest m c ∗ oAny c c ∗ bigSep (Finset.range 15) (tokB c) ∗ bigSep (Finset.range 15) (tokE c)
    ∗ bigSep (Finset.range 15) (famW 1 0 c) ∗ bigSep (Finset.range 15) (posJ 0 0 c) ∗ bigSep (Finset.range 15) (famW 2 0 c))
/-- Beside the first exchange's sends. -/
def restB (c : Dev nD) : sProp 𝕄 :=
  iprop(base m c ∗ oAny c c ∗ bigSep (Finset.range 15) (fun a => oAny (peer c a) c) ∗ bigSep (Finset.range 15) (tokE c)
    ∗ bigSep (Finset.range 15) (famW 1 0 c) ∗ bigSep (Finset.range 15) (posJ 0 0 c) ∗ bigSep (Finset.range 15) (famW 2 0 c))
/-- Beside the first exchange's landings. -/
def restC (c : Dev nD) : sProp 𝕄 :=
  iprop(base m c ∗ oAny c c ∗ bigSep (Finset.range 15) (fun a => oAny (peer c a) c) ∗ bigSep (Finset.range 15) (tokE c)
    ∗ bigSep (Finset.range 15) (credS c) ∗ bigSep (Finset.range 15) (posJ 0 0 c) ∗ bigSep (Finset.range 15) (famW 2 0 c))

variable (K : Dev nD × CK → ℕ)

/-- Beside the store of the reduced rows. -/
def restO (c : Dev nD) : sProp 𝕄 :=
  iprop(stC m K c 15 ∗ aPts m c c ∗ base m c ∗ bigSep (Finset.range 15) (fun a => oAny (peer c a) c) ∗ bigSep (Finset.range 15) (tokE c)
    ∗ bigSep (Finset.range 15) (credS c) ∗ bigSep (Finset.range 15) (posJ 0 0 c) ∗ bigSep (Finset.range 15) (famW 2 0 c))
/-- The landing buffer's slots and the first exchange's receiving cells, done with. -/
def landed (c : Dev nD) : sProp 𝕄 :=
  iprop(bigSep (Finset.range 15) (fun a => slotPts m c (peer c a)) ∗ bigSep (Finset.range 15) (posJ 1 1 c))
/-- Beside the returns of the first exchange's transfers. -/
def restD (c : Dev nD) : sProp 𝕄 :=
  iprop(oPts m fullShare c c ∗ landed m c ∗ aPts m c c ∗ base m c ∗ bigSep (Finset.range 15) (fun a => oAny (peer c a) c)
    ∗ bigSep (Finset.range 15) (tokE c) ∗ bigSep (Finset.range 15) (famW 2 0 c))
/-- Beside the second exchange's sends. -/
def restE (c : Dev nD) : sProp 𝕄 :=
  iprop(bigSep (Finset.range 15) (posJ 0 1 c) ∗ bigSep (Finset.range 15) (fun a => aPts m c (peer c a)) ∗ landed m c ∗ aPts m c c ∗ base m c
    ∗ bigSep (Finset.range 15) (famW 2 0 c))
/-- Beside the second exchange's landings. -/
def restF (c : Dev nD) : sProp 𝕄 :=
  iprop(oPts m (remShare 15) c c ∗ bigSep (Finset.range 15) (credS c) ∗ bigSep (Finset.range 15) (posJ 0 1 c)
    ∗ bigSep (Finset.range 15) (fun a => aPts m c (peer c a)) ∗ landed m c ∗ aPts m c c ∗ base m c)
/-- Beside the returns of the second exchange's transfers. -/
def restG (c : Dev nD) : sProp 𝕄 :=
  iprop(oPts m (remShare 15) c c ∗ bigSep (Finset.range 15) (fun a => oPts m fullShare c (peer c a)) ∗ bigSep (Finset.range 15) (posJ 2 1 c)
    ∗ bigSep (Finset.range 15) (fun a => aPts m c (peer c a)) ∗ landed m c ∗ aPts m c c ∗ base m c)

/-! ## The transitions -/

theorem toB (c : Dev nD) : iprop((records m K ∗ owesAny c (Ow c 15 0 0) ∗ atPos ER (barCell c) 1 ∅ 0
      ∗ bigSep (Finset.univ.erase c) (fun d => iprop(slotAny (F := F) d c ∗ oAny d c))) ∗ aAll m c ∗ ops m c ∗ cp2 m c ∗ restA m c)
    ⊢ iprop(stB m K c 0 ∗ aPts m c c ∗ restB m c) := by
  unfold stB restA restB base
  rw [← Finset.range_eq_Ico, famB_eq, others_eq, bigSep_sep', aAll_eq, all_eq c (aPts m c)]
  iintro ⟨⟨Hrec, HO, Hbar, Hsl, Hoa⟩, ⟨Ha, Has⟩, Hops, Hcp, Hself, Hs, Hw, Ho, HtB, HtE, HW1, HP, HW2⟩
  isplitl [Hrec HO Has Hsl HtB]
  · isplitl [Hrec]; · iexact Hrec
    isplitl [HO]; · iexact HO
    isplitl [Has Hsl HtB]
    · isplitl [Has]; · iexact Has
      isplitl [Hsl] <;> iassumption
    rw [Finset.range_zero, bigSep_empty]; iempintro
  isplitl [Ha]; · iexact Ha
  isplitl [Hbar Hops Hcp Hself Hs Hw]
  · isplitl [Hbar]; · iexact Hbar
    isplitl [Hops]; · iexact Hops
    isplitl [Hcp]; · iexact Hcp
    isplitl [Hself]; · iexact Hself
    isplitl [Hs] <;> iassumption
  isplitl [Ho]; · iexact Ho
  isplitl [Hoa]; · iexact Hoa
  isplitl [HtE]; · iexact HtE
  isplitl [HW1]; · iexact HW1
  isplitl [HP] <;> iassumption

theorem toC (c : Dev nD) : iprop(stB m K c 15 ∗ aPts m c c ∗ restB m c) ⊢ iprop(stC m K c 0 ∗ aPts m c c ∗ restC m c) := by
  unfold stB restB restC stC stW
  rw [← Finset.range_eq_Ico]
  iintro ⟨⟨Hrec, HO, -, Hcr⟩, Ha, Hb, Ho, Hoa, HtE, HW1, HP, HW2⟩
  isplitl [Hrec HO HW1]
  · isplitl [Hrec]; · iexact Hrec
    isplitl [HO]; · iexact HO
    isplitl [HW1]; · iexact HW1
    isplitl <;> (rw [Finset.range_zero, bigSep_empty]; iempintro)
  isplitl [Ha]; · iexact Ha
  isplitl [Hb]; · iexact Hb
  isplitl [Ho]; · iexact Ho
  isplitl [Hoa]; · iexact Hoa
  isplitl [HtE]; · iexact HtE
  isplitl [Hcr]; · iexact Hcr
  isplitl [HP] <;> iassumption

theorem toO (c : Dev nD) : iprop(stC m K c 15 ∗ aPts m c c ∗ restC m c) ⊢ iprop(oAny c c ∗ restO m K c) := by
  unfold restC restO
  iintro ⟨Hst, Ha, Hb, Ho, Hrest⟩
  isplitl [Ho]; · iexact Ho
  isplitl [Hst]; · iexact Hst
  isplitl [Ha]; · iexact Ha
  isplitl [Hb]; · iexact Hb
  iexact Hrest

theorem toD (c : Dev nD) : iprop(oPts m fullShare c c ∗ restO m K c) ⊢ iprop(stD m K c 0 ∗ restD m c) := by
  unfold restO restD landed stC stD stW
  rw [← Finset.range_eq_Ico, famW_eq 0 0, pastW_eq 1 0]
  iintro ⟨Ho, ⟨Hrec, HO, -, Hsl, Hp1, -⟩, Ha, Hb, Hoa, HtE, Hcr, HP, HW2⟩
  isplitl [Hrec HO Hcr HP]
  · isplitl [Hrec]; · iexact Hrec
    isplitl [HO]; · iexact HO
    isplitl [Hcr HP]
    · isplitl [Hcr]; · iexact Hcr
      iexact HP
    isplitl <;> (rw [Finset.range_zero, bigSep_empty]; iempintro)
  isplitl [Ho]; · iexact Ho
  isplitl [Hsl Hp1]
  · isplitl [Hsl] <;> iassumption
  isplitl [Ha]; · iexact Ha
  isplitl [Hb]; · iexact Hb
  isplitl [Hoa]; · iexact Hoa
  isplitl [HtE] <;> iassumption

theorem toE (c : Dev nD) : iprop(stD m K c 15 ∗ restD m c) ⊢ iprop(stE m K c 0 ∗ restE m c) := by
  unfold restD restE stE stD stW
  rw [← Finset.range_eq_Ico, famE_eq, pastW_eq 0 0]
  iintro ⟨⟨Hrec, HO, -, Has, Hp, Hr⟩, Ho, Hl, Ha, Hb, Hoa, HtE, HW2⟩
  isplitl [Hrec HO Ho Hr HtE Hoa]
  · isplitl [Hrec]; · iexact Hrec
    isplitl [HO]; · iexact HO
    isplitl [Ho]; · iexact Ho
    isplitl [Hr HtE Hoa]
    · isplitl [Hr]; · iexact Hr
      isplitl [HtE] <;> iassumption
    rw [Finset.range_zero, bigSep_empty]; iempintro
  isplitl [Hp]; · iexact Hp
  isplitl [Has]; · iexact Has
  isplitl [Hl]; · iexact Hl
  isplitl [Ha]; · iexact Ha
  isplitl [Hb] <;> iassumption

theorem toF (c : Dev nD) : iprop(stE m K c 15 ∗ restE m c) ⊢ iprop(stF m K c 0 ∗ restF m c) := by
  unfold restE restF stE stF stW
  rw [← Finset.range_eq_Ico]
  iintro ⟨⟨Hrec, HO, Ho, -, Hcr⟩, Hp, Has, Hl, Ha, Hb, HW2⟩
  isplitl [Hrec HO HW2]
  · isplitl [Hrec]; · iexact Hrec
    isplitl [HO]; · iexact HO
    isplitl [HW2]; · iexact HW2
    isplitl <;> (rw [Finset.range_zero, bigSep_empty]; iempintro)
  isplitl [Ho]; · iexact Ho
  isplitl [Hcr]; · iexact Hcr
  isplitl [Hp]; · iexact Hp
  isplitl [Has]; · iexact Has
  isplitl [Hl]; · iexact Hl
  isplitl [Ha] <;> iassumption

theorem toG (c : Dev nD) : iprop(stF m K c 15 ∗ restF m c) ⊢ iprop(stG m K c 0 ∗ restG m c) := by
  unfold restF restG stF stG stW
  rw [← Finset.range_eq_Ico, famW_eq 0 1, pastW_eq 2 0]
  iintro ⟨⟨Hrec, HO, -, Hos, Hp2, -⟩, Ho, Hcr, Hp, Has, Hl, Ha, Hb⟩
  isplitl [Hrec HO Hcr Hp]
  · isplitl [Hrec]; · iexact Hrec
    isplitl [HO]; · iexact HO
    isplitl [Hcr Hp]
    · isplitl [Hcr]; · iexact Hcr
      iexact Hp
    isplitl <;> (rw [Finset.range_zero, bigSep_empty]; iempintro)
  isplitl [Ho]; · iexact Ho
  isplitl [Hos]; · iexact Hos
  isplitl [Hp2]; · iexact Hp2
  isplitl [Has]; · iexact Has
  isplitl [Hl]; · iexact Hl
  isplitl [Ha] <;> iassumption

end Cert.KernelIdealProof

end
-- ==== Proof.Body.lean ====
/-
# Body — a device's run of the kernel's body

From the buffers, the tokens and the credits a device starts with, the body runs to its end, where it owes nothing, its result buffer
holds the whole result, and every cell of its exchange is at zero.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The start -/

/-- The two weights whole. -/
def weights (c : Dev nD) : sProp 𝕄 :=
  iprop((gqM.view.loc (c : Thread nD τ) ↦[Finset.univ]{fullShare} m ((c : Thread nD τ).loc main_arg1))
    ∗ (goM.view.loc (c : Thread nD τ) ↦[Finset.univ]{fullShare} m ((c : Thread nD τ).loc main_arg4)))

/-- The two local copies' semaphores at zero. -/
def lsems (c : Dev nD) : sProp 𝕄 :=
  iprop(semVal ((c : Thread nD τ), .dma lS0) 0 ∗ semVal ((c : Thread nD τ), .dma lS1) 0)

/-- The four scratch buffers, at any contents. -/
def scratch (c : Dev nD) : sProp 𝕄 :=
  iprop((∃ f, wqM.view.loc (c : Thread nD τ) ↦[Finset.univ]{fullShare} f) ∗ (∃ f, woM.view.loc (c : Thread nD τ) ↦[Finset.univ]{fullShare} f)
    ∗ (∃ f, aM.view.loc (c : Thread nD τ) ↦[Finset.univ]{fullShare} f) ∗ (∃ f, cM.view.loc (c : Thread nD τ) ↦[Finset.univ]{fullShare} f))

/-- A device's positions at the start and its tokens. -/
def linear (c : Dev nD) : sProp 𝕄 :=
  iprop((bigSep Finset.univ fun k : CK => atPos ER (kcell (c, k)) 0 ∅ 0)
    ∗ bigSep (Finset.range 15) (tokA c) ∗ bigSep (Finset.range 15) (tokB c) ∗ bigSep (Finset.range 15) (tokE c))

/-- The credits launched with a device's cells. -/
def credits (c : Dev nD) : sProp 𝕄 :=
  iprop(cred (tallyAt (barCell c) () 15) ∗ bigSep (Finset.range 15) (credJ 1 c) ∗ bigSep (Finset.range 15) (credJ 2 c))

/-- What the body starts from. -/
def bodyIn (c : Dev nD) : sProp 𝕄 :=
  iprop(records m K ∗ owesAny c (Ow c 0 0 0) ∗ linear c ∗ credits c ∗ opI m c
    ∗ (∃ f, oM.view.loc (c : Thread nD τ) ↦[Finset.univ]{fullShare} f) ∗ scratch c ∗ weights m c ∗ lsems c)

/-- What the body ends with. -/
def bodyOut (c : Dev nD) : sProp 𝕄 :=
  iprop(owesAny c 0 ∗ opI m c ∗ (oM.view.loc (c : Thread nD τ) ↦[Finset.univ]{fullShare} outBuf m) ∗ scratch c ∗ weights m c ∗ lsems c
    ∗ bigSep Finset.univ fun k : CK => semVal (kcell (c, k)) 0)

/-- A weight split at the device's slice. -/
theorem weights_split (c : Dev nD) : weights m c ⊢ iprop(((gqRow c).view.loc (c : Thread nD τ) ↦[(gqRow c).view.set]{fullShare} m ((c : Thread nD τ).loc main_arg1))
    ∗ ((goRow c).view.loc (c : Thread nD τ) ↦[(goRow c).view.set]{fullShare} m ((c : Thread nD τ).loc main_arg4)) ∗ wRest m c) := by
  unfold weights wRest
  have h1 : (gqM.view.loc (c : Thread nD τ) ↦[Finset.univ]{fullShare} m ((c : Thread nD τ).loc main_arg1) : sProp 𝕄)
      ⊢ iprop(((gqRow c).view.loc (c : Thread nD τ) ↦[(gqRow c).view.set]{fullShare} m ((c : Thread nD τ).loc main_arg1))
        ∗ ((gqRow c).view.loc (c : Thread nD τ) ↦[Finset.univ \ (gqRow c).view.set]{fullShare} m ((c : Thread nD τ).loc main_arg1))) :=
    (pointsTo_split_subset (Finset.subset_univ _)).1
  have h2 : (goM.view.loc (c : Thread nD τ) ↦[Finset.univ]{fullShare} m ((c : Thread nD τ).loc main_arg4) : sProp 𝕄)
      ⊢ iprop(((goRow c).view.loc (c : Thread nD τ) ↦[(goRow c).view.set]{fullShare} m ((c : Thread nD τ).loc main_arg4))
        ∗ ((goRow c).view.loc (c : Thread nD τ) ↦[Finset.univ \ (goRow c).view.set]{fullShare} m ((c : Thread nD τ).loc main_arg4))) :=
    (pointsTo_split_subset (Finset.subset_univ _)).1
  iintro ⟨Hq, Ho⟩
  ihave Hq' := h1 $$ Hq
  ihave Ho' := h2 $$ Ho
  icases Hq' with ⟨Hq1, Hq2⟩
  icases Ho' with ⟨Ho1, Ho2⟩
  isplitl [Hq1]; · iexact Hq1
  isplitl [Ho1]; · iexact Ho1
  isplitl [Hq2] <;> iassumption

/-- The slices put back. -/
theorem weights_join (c : Dev nD) : iprop(((gqRow c).view.loc (c : Thread nD τ) ↦[(gqRow c).view.set]{fullShare} m ((c : Thread nD τ).loc main_arg1))
    ∗ ((goRow c).view.loc (c : Thread nD τ) ↦[(goRow c).view.set]{fullShare} m ((c : Thread nD τ).loc main_arg4)) ∗ wRest m c) ⊢ weights m c := by
  unfold weights wRest
  have h1 : iprop(((gqRow c).view.loc (c : Thread nD τ) ↦[(gqRow c).view.set]{fullShare} m ((c : Thread nD τ).loc main_arg1))
        ∗ ((gqRow c).view.loc (c : Thread nD τ) ↦[Finset.univ \ (gqRow c).view.set]{fullShare} m ((c : Thread nD τ).loc main_arg1)))
      ⊢ (gqM.view.loc (c : Thread nD τ) ↦[Finset.univ]{fullShare} m ((c : Thread nD τ).loc main_arg1) : sProp 𝕄) :=
    (pointsTo_split_subset (Finset.subset_univ _)).2
  have h2 : iprop(((goRow c).view.loc (c : Thread nD τ) ↦[(goRow c).view.set]{fullShare} m ((c : Thread nD τ).loc main_arg4))
        ∗ ((goRow c).view.loc (c : Thread nD τ) ↦[Finset.univ \ (goRow c).view.set]{fullShare} m ((c : Thread nD τ).loc main_arg4)))
      ⊢ (goM.view.loc (c : Thread nD τ) ↦[Finset.univ]{fullShare} m ((c : Thread nD τ).loc main_arg4) : sProp 𝕄) :=
    (pointsTo_split_subset (Finset.subset_univ _)).2
  iintro ⟨Hq1, Ho1, Hq2, Ho2⟩
  isplitl [Hq1 Hq2]
  · iapply h1; isplitl [Hq1] <;> iassumption
  iapply h2; isplitl [Ho1] <;> iassumption

/-- What lies beside the signals. -/
def rest0 (c : Dev nD) : sProp 𝕄 :=
  iprop(cp0 m c ∗ opI m c ∗ aAny c ∗ (cred (tallyAt (barCell c) () 15) ∗ atPos ER (barCell c) 0 ∅ 0) ∗ restA m c)

theorem enter (c : Dev nD) : bodyIn m K c ⊢ iprop(stA m K c 0 ∗ rest0 m c) := by
  unfold bodyIn stA rest0 restA cp0 aAny linear credits scratch lsems selfPos
  rw [← Finset.range_eq_Ico, famA_eq, cells_eq c, famW_eq 1 0, famW_eq 2 0]
  have ho := outAny_split (F := F) c
  have hs := slots_split (F := F) c
  rw [all_eq c (oAny c)] at ho
  rw [all_eq c (slotAny c)] at hs
  have hw := weights_split m c
  iintro ⟨Hrec, HO, ⟨⟨Hbar, ⟨Hs0, HP0⟩, ⟨Hs1, HP1⟩, ⟨Hs2, HP2⟩⟩, HtA, HtB, HtE⟩, ⟨Hcb, Hc1, Hc2⟩, Hop, Ho, ⟨Hwq, Hwo, Ha, Hcm⟩, Hw, Hl0, Hl1⟩
  ihave Ho' := ho $$ Ho
  icases Ho' with ⟨Hoc, Hop2⟩
  ihave Hcm' := hs $$ Hcm
  icases Hcm' with ⟨Hsc, Hsp⟩
  ihave Hw' := hw $$ Hw
  icases Hw' with ⟨Hw1, Hw2, Hwr⟩
  isplitl [Hrec HO HtA Hsp Hop2]
  · isplitl [Hrec]; · iexact Hrec
    isplitl [HO]; · iexact HO
    isplitl [HtA]; · iexact HtA
    isplitl [Hsp] <;> iassumption
  isplitl [Hw1 Hw2 Hwq Hwo Hl0 Hl1]
  · isplitl [Hw1]; · iexact Hw1
    isplitl [Hw2]; · iexact Hw2
    isplitl [Hwq]; · iexact Hwq
    isplitl [Hwo]; · iexact Hwo
    isplitl [Hl0] <;> iassumption
  isplitl [Hop]; · iexact Hop
  isplitl [Ha]; · iexact Ha
  isplitl [Hcb Hbar]
  · isplitl [Hcb] <;> iassumption
  isplitl [Hs0 Hs1 Hs2]
  · isplitl [Hs0]; · iexact Hs0
    isplitl [Hs1] <;> iassumption
  isplitl [Hsc]; · iexact Hsc
  isplitl [Hwr]; · iexact Hwr
  isplitl [Hoc]; · iexact Hoc
  isplitl [HtB]; · iexact HtB
  isplitl [HtE]; · iexact HtE
  isplitl [Hc1 HP1]
  · isplitl [Hc1]; · iexact Hc1
    iexact HP1
  isplitl [HP0]; · iexact HP0
  isplitl [Hc2]; · iexact Hc2
  iexact HP2

/-! ## The end -/

theorem lastK_peer (c : Dev nD) (j : Fin 3) {a : ℕ} (h : a ∈ Finset.range 15) : lastK c (.inr (j, peer c a)) = if j = 0 then 2 else 1 :=
  if_neg (peer_ne c (Finset.mem_range.mp h))
theorem lastK_self (c : Dev nD) (j : Fin 3) : lastK c (.inr (j, c)) = 0 := if_pos rfl

omit [FloatOps F] in
/-- The positions on every cell after its last round. -/
theorem last_eq (c : Dev nD) : (bigSep Finset.univ fun k : CK => (atPos ER (kcell (c, k)) (lastK c k) ∅ 0 : sProp 𝕄))
    = iprop(atPos ER (barCell c) 1 ∅ 0 ∗ (atPos ER (cell 0 c c) 0 ∅ 0 ∗ bigSep (Finset.range 15) (posJ 0 2 c))
      ∗ (atPos ER (cell 1 c c) 0 ∅ 0 ∗ bigSep (Finset.range 15) (posJ 1 1 c))
      ∗ (atPos ER (cell 2 c c) 0 ∅ 0 ∗ bigSep (Finset.range 15) (posJ 2 1 c))) := by
  have h : ∀ (j : Fin 3) (r : ℕ), (if j = 0 then 2 else 1) = r →
      (bigSep (Finset.range 15) fun a => (atPos ER (kcell (c, .inr (j, peer c a))) (lastK c (.inr (j, peer c a))) ∅ 0 : sProp 𝕄))
        = bigSep (Finset.range 15) (posJ j r c) := fun j r hr => bigSep_congr fun a ha => by
    unfold posJ; rw [lastK_peer c j ha, hr]
  rw [cells_eq c, lastK_self, lastK_self, lastK_self, h 0 2 rfl, h 1 1 rfl, h 2 1 rfl]
  rfl

/-- Every cell closes at zero. -/
theorem close_all (c : Dev nD) : iprop(records m K ∗ bigSep Finset.univ fun k : CK => atPos ER (kcell (c, k)) (lastK c k) ∅ 0)
    ⊢ iprop(|={Set.univ}=> bigSep Finset.univ fun k : CK => semVal (kcell (c, k)) 0) := by
  have h1 : ∀ k : CK, iprop(records m K ∗ atPos ER (kcell (c, k)) (lastK c k) ∅ 0) ⊢ iprop(|={Set.univ}=> semVal (kcell (c, k)) 0) := by
    intro k
    have hi := records_inv m K (c, k)
    have hc := cell_close ER (Rd m) (κ := K (c, k)) (g := kcell (c, k)) (Set.mem_univ _) (fun h => h) (duties_last m c k)
    iintro ⟨Hr, Hp⟩
    iapply hc
    isplitl [Hr]
    · iapply hi; iexact Hr
    iexact Hp
  have h2 : iprop(records m K ∗ bigSep Finset.univ fun k : CK => atPos ER (kcell (c, k)) (lastK c k) ∅ 0)
      ⊢ bigSep Finset.univ fun k : CK => iprop(|={Set.univ}=> semVal (kcell (c, k)) 0) := bigSep_with_persistent fun k _ => h1 k
  exact h2.trans (bigSep_fupd _ _)

theorem exit (c : Dev nD) (f₀ : Buf (Elt F) (cM.view.loc (c : Thread nD τ))) :
    iprop(stG m K c 15 ∗ restG m c) ⊢ iprop(|={Set.univ}=> bodyOut m c) := by
  have hcl := close_all m K c
  rw [last_eq] at hcl
  have hown := own_join m c 15
  have hslots := slots_join (F := F) c f₀
  rw [all_eq c (slotAny c)] at hslots
  have hany : (bigSep (Finset.range 15) fun a => slotPts m c (peer c a)) ⊢ bigSep (Finset.range 15) fun a => slotAny c (peer c a) :=
    bigSep_mono fun a _ => slotPts_any m c (peer c a)
  have hout := outAll_eq m c
  rw [all_eq c (oPts m fullShare c)] at hout
  have hacc := aAll_eq m c
  rw [all_eq c (aPts m c)] at hacc
  unfold aAll at hacc
  have hw := weights_join m c
  unfold stG stW restG landed base bodyOut selfPos cp2 ops scratch lsems
  rw [Ow_done, pastW_eq 0 1]
  iintro ⟨⟨Hrec, HO, -, Hpc, Hp0, -⟩, Hor, Hop, Hp2, Hap, ⟨Hsl, Hp1⟩, Ha, Hbar, ⟨Hop0, Hwq, Hwo⟩, ⟨Hg1, Hg2, Hl0, Hl1⟩, ⟨Hs0, Hs1, Hs2⟩, Hsc, Hwr⟩
  imod hcl $$ [Hrec Hp0 Hp1 Hp2 Hs0 Hs1 Hs2 Hbar] with Hsem
  · isplitl [Hrec]; · iexact Hrec
    isplitl [Hbar]; · iexact Hbar
    isplitl [Hs0 Hp0]
    · isplitl [Hs0] <;> iassumption
    isplitl [Hs1 Hp1]
    · isplitl [Hs1] <;> iassumption
    isplitl [Hs2] <;> iassumption
  imodintro
  isplitl [HO]; · iexact HO
  isplitl [Hop0]; · iexact Hop0
  isplitl [Hpc Hor Hop]
  · iapply (Entails.of_eq hout.symm)
    isplitl [Hpc Hor]
    · iapply hown
      isplitl [Hpc] <;> iassumption
    iexact Hop
  isplitl [Hwq Hwo Ha Hap Hsl Hsc]
  · isplitl [Hwq]; · iexists _; iexact Hwq
    isplitl [Hwo]; · iexists _; iexact Hwo
    isplitl [Ha Hap]
    · iexists (accBuf m c)
      iapply (Entails.of_eq hacc.symm)
      isplitl [Ha] <;> iassumption
    iapply hslots
    isplitl [Hsc]; · iexact Hsc
    iapply hany
    iexact Hsl
  isplitl [Hg1 Hg2 Hwr]
  · iapply hw
    isplitl [Hg1]; · iexact Hg1
    isplitl [Hg2] <;> iassumption
  isplitl [Hl0 Hl1]
  · isplitl [Hl0] <;> iassumption
  iexact Hsem

/-! ## The body -/

/-- A part followed by the rest. -/
theorem step_bind {α β : Type} {P : sProp 𝕄} {Q : β → sProp 𝕄} (c : Dev nD) {p : Prog (TpuEff nD τ sig (Elt F) Λ₀ .tc) α}
    {k : α → Prog (TpuEff nD τ sig (Elt F) Λ₀ .tc) β} (h : P ⊢ WP c p fun x => WP c (k x) Q) : P ⊢ WP c (p >>= k) Q := by
  unfold WP at h ⊢
  rw [wp_bind]
  exact h

/-- The body's first forty parts, which are all but its last wait. -/
theorem part40_spec (c : Dev nD) {Q : Dev nD → sProp 𝕄} (hQ : iprop(stG m K c 14 ∗ restG m c) ⊢ Q c) :
    iprop(stA m K c 0 ∗ rest0 m c) ⊢ WP c (atArgs (k0_part40 (F := F))) Q := by
  rw [k0_part40_eq_skeleton]
  unfold atArgs k0_part40_skel rest0
  refine step_bind c (part1_spec m K c fun v2 w0 w1 => ?_)
  refine step_bind c (part2_spec m K c v2 _ _ fun w2 w3 => ?_)
  refine step_bind c (part3_spec m K c v2 _ _ ?_)
  refine step_bind c (swap.trans (part4_spec m K c ?_))
  refine step_bind c (part5_spec m c ?_)
  refine step_bind c (part6_spec m c ?_)
  have h7 : iprop(ops m c ∗ cp2 m c ∗ stA m K c 15 ∗ aAny c ∗ (cred (tallyAt (barCell c) () 15) ∗ atPos ER (barCell c) 0 ∅ 0) ∗ restA m c)
      ⊢ iprop(ops m c ∗ aAny c ∗ (stA m K c 15 ∗ cred (tallyAt (barCell c) () 15) ∗ atPos ER (barCell c) 0 ∅ 0) ∗ cp2 m c ∗ restA m c) := by
    iintro ⟨H1, H2, H3, H4, ⟨H5, H6⟩, H7⟩
    isplitl [H1]; · iexact H1
    isplitl [H4]; · iexact H4
    isplitl [H3 H5 H6]
    · isplitl [H3]; · iexact H3
      isplitl [H5] <;> iassumption
    isplitl [H2] <;> iassumption
  refine h7.trans (step_bind c (part7_spec m c ?_))
  refine step_bind c (part8_spec m c ?_)
  refine step_bind c (part9_spec m c ?_)
  have h10 : iprop(ops m c ∗ aTop m c ∗ (stA m K c 15 ∗ cred (tallyAt (barCell c) () 15) ∗ atPos ER (barCell c) 0 ∅ 0) ∗ cp2 m c ∗ restA m c)
      ⊢ iprop(aTop m c ∗ (stA m K c 15 ∗ cred (tallyAt (barCell c) () 15) ∗ atPos ER (barCell c) 0 ∅ 0) ∗ ops m c ∗ cp2 m c ∗ restA m c) := by
    iintro ⟨H1, H2, H3, H4⟩
    isplitl [H2]; · iexact H2
    isplitl [H3]; · iexact H3
    isplitl [H1] <;> iassumption
  refine h10.trans (step_bind c (part10_spec m K c v2 (toB m K c) fun w4 w5 => ?_))
  refine step_bind c (part11_spec m K c v2 _ _ fun w6 => ?_)
  refine step_bind c (part12_spec m K c v2 _ fun w7 => ?_)
  refine step_bind c (part13_spec m K c v2 _ ?_)
  refine step_bind c (part14_spec m K c v2 ?_)
  refine step_bind c (part15_spec m K c v2 (toC m K c) fun w8 w9 => ?_)
  refine step_bind c (part16_spec m K c v2 _ _ _ fun w10 => ?_)
  refine step_bind c (part17_spec m K c v2 _ _ fun w11 => ?_)
  refine step_bind c (part18_spec m K c v2 _ _ fun w12 => ?_)
  refine step_bind c (part19_spec m K c v2 _ _ fun w13 => ?_)
  refine step_bind c (part20_spec m K c v2 _ _ fun w14 => ?_)
  refine step_bind c (part21_spec m K c v2 _ _ ?_)
  refine step_bind c (part22_spec m K c v2 _ _ rfl (toO m K c) (toD m K c) fun w15 w16 => ?_)
  refine step_bind c (part23_spec m K c v2 _ _ fun w17 => ?_)
  refine step_bind c (part24_spec m K c v2 _ ?_)
  refine step_bind c (part25_spec m K c v2 ?_)
  refine step_bind c (part26_spec m K c v2 (toE m K c) fun w18 w19 => ?_)
  refine step_bind c (part27_spec m K c v2 _ _ fun w20 => ?_)
  refine step_bind c (part28_spec m K c v2 _ fun w21 w22 => ?_)
  refine step_bind c (part29_spec m K c v2 _ _ fun w23 => ?_)
  refine step_bind c (part30_spec m K c v2 _ ?_)
  refine step_bind c (part31_spec m K c v2 (toF m K c) ?_)
  refine step_bind c (part32_spec m K c v2 ?_)
  refine step_bind c (part33_spec m K c v2 ?_)
  refine step_bind c (part34_spec m K c v2 ?_)
  refine step_bind c (part35_spec m K c v2 ?_)
  refine step_bind c (part36_spec m K c v2 (toG m K c) ?_)
  refine step_bind c (part37_spec m K c v2 fun w24 => ?_)
  refine step_bind c (part38_spec m K c v2 _ ?_)
  refine step_bind c (part39_spec m K c v2 ?_)
  simp only [Prog.lift, Prog.bind_op, Prog.bind_ret, Prog.pure_eq_ret]
  refine step_sWait1 m K c 13 ?_
  exact step_ret c hQ

/-- A device's run of the body. -/
theorem body_spec (c : Dev nD) (f₀ : Buf (Elt F) (cM.view.loc (c : Thread nD τ))) :
    bodyIn m K c ⊢ WP c (atArgs (cc0_body (F := F))) fun _ => bodyOut m c := by
  rw [cc0_body_eq_skeleton]
  unfold atArgs cc0_body_skel
  refine (enter m K c).trans (step_bind c (part40_spec m K c ?_))
  simp only [Prog.lift, Prog.bind_op, Prog.bind_ret, Prog.pure_eq_ret]
  refine step_sWait1 m K c 14 ?_
  have h := exit m K c f₀
  unfold WP
  rw [wp_ret]
  exact h

end Cert.KernelIdealProof

end
-- ==== Proof.Start.lean ====
/-
# Start — what the launch hands the devices

The exchange's cells and duty tokens minted, dealt to the device that pays with them, the cells' invariants allocated, and the credits the
devices' initial dues give.
-/
module

public import proofs.«01_k».proof.Proof.Body
public import Idealize.ShloMosaic.Lib.Pipeline.Launch
public import Idealize.ShloMosaic.Lib.Pipeline.Kit

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores a device owns -/

/-- The kernel's own semaphores: the two of the local copies, and the three families. -/
abbrev osem : Fin 2 ⊕ (Fin 3 × Dev nD) → SemLoc sig
  | .inl 0 => .dma lS0
  | .inl 1 => .dma lS1
  | .inr p => csem (.inr p)

section NoFloat

omit [FloatOps F]

theorem bigSep_two (Ψ : Fin 2 → sProp 𝕄) : bigSep Finset.univ Ψ = iprop(Ψ 0 ∗ Ψ 1) :=
  bigSep_univ_eq_bigSepL [0, 1] (by decide) (by decide) Ψ

theorem ownSems0_eq (c : Dev nD) : (Pipeline.ownSems0 (Ix := Unit) (Name := ℕ) (U := UU) (Lvl := ℕ) (Val := Elt F) (τ := τ) osem c : sProp 𝕄)
    = iprop(lsems c ∗ bigSep Finset.univ fun p : Fin 3 × Dev nD => semVal (kcell (c, .inr p)) 0) := by
  have h1 : (Pipeline.ownSems0 (Ix := Unit) (Name := ℕ) (U := UU) (Lvl := ℕ) (Val := Elt F) (τ := τ) osem c : sProp 𝕄)
      = iprop((bigSep Finset.univ fun i : Fin 2 => semVal ((c : Thread nD τ), osem (.inl i)) 0)
        ∗ bigSep Finset.univ fun p : Fin 3 × Dev nD => semVal ((c : Thread nD τ), osem (.inr p)) 0) :=
    BI.bigSep_univ_sum fun k => (semVal ((c : Thread nD τ), osem k) 0 : sProp 𝕄)
  have h2 : (bigSep Finset.univ fun i : Fin 2 => (semVal ((c : Thread nD τ), osem (.inl i)) 0 : sProp 𝕄)) = lsems c :=
    by rw [bigSep_two]; unfold lsems; rfl
  rw [h1, h2]

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells at zero: its barrier, and the three families. -/
theorem cells0_eq (c : Dev nD) : (bigSep Finset.univ fun k : CK => (semVal (kcell (c, k)) 0 : sProp 𝕄))
    = iprop(semVal (barCell c) 0 ∗ bigSep Finset.univ fun p : Fin 3 × Dev nD => semVal (kcell (c, .inr p)) 0) := by
  have h := BI.bigSep_univ_sum fun k : CK => (semVal (kcell (c, k)) 0 : sProp 𝕄)
  rw [h, BI.bigSep_univ_of_subsingleton (i := ())]
  rfl

end NoFloat

/-! ## The cells and the tokens -/

def allCells : Finset (GSem nD τ sig) := Finset.univ.map ⟨kcell, kcell_injective⟩

/-- The cell and the round of the tokens device `p` pays its peer `a` with. -/
def tokCell (p : Dev nD) (i : Fin 5) (a : ℕ) : Dev nD × CK := match i with
  | 0 => (peer p a, .inl ()) | 1 => (p, .inr (0, peer p a)) | 2 => (peer p a, .inr (1, p)) | 3 => (p, .inr (0, peer p a)) | 4 => (peer p a, .inr (2, p))
def tokRound (i : Fin 5) : ℕ := match i with | 3 => 1 | _ => 0

def tokOf (x : Dev nD × (Fin 5 × Fin 15)) : GSem nD τ sig × ℕ × Dev nD := (kcell (tokCell x.1 x.2.1 x.2.2.val), tokRound x.2.1, x.1)

/-- The device and the place a token's cell names among the payer's peers. -/
theorem tokOf_injective : Function.Injective tokOf := by
  rintro ⟨p, i, a⟩ ⟨p', i', a'⟩ h
  have hp : p = p' := congrArg (fun x : GSem nD τ sig × ℕ × Dev nD => x.2.2) h
  subst hp
  have hr : tokRound i = tokRound i' := congrArg (fun x : GSem nD τ sig × ℕ × Dev nD => x.2.1) h
  have hc : tokCell p i a.val = tokCell p i' a'.val := kcell_injective (congrArg (fun x : GSem nD τ sig × ℕ × Dev nD => x.1) h)
  have key : ∀ b b' : Fin 15, peer p b.val = peer p b'.val → b = b' := fun b b' e => Fin.ext (peer_inj p b.isLt b'.isLt e)
  have hi : i = i' := by
    revert hr hc
    fin_cases i <;> fin_cases i' <;> intro hr hc <;> first
      | rfl
      | exact absurd hr (by decide)
      | (exfalso; have h2 := congrArg Prod.snd hc; simp [tokCell] at h2)
  subst hi
  have ha : a = a' := by
    refine key a a' ?_
    revert hc
    fin_cases i <;> intro hc
    · exact congrArg Prod.fst hc
    · exact (Prod.mk.inj (Sum.inr.inj (congrArg Prod.snd hc))).2
    · exact congrArg Prod.fst hc
    · exact (Prod.mk.inj (Sum.inr.inj (congrArg Prod.snd hc))).2
    · exact congrArg Prod.fst hc
  rw [ha]

def allToks : Finset (GSem nD τ sig × ℕ × Dev nD) := Finset.univ.map ⟨tokOf, tokOf_injective⟩

def u₀ : UU := (initOf (Pipeline.cells cfgs cellOf_inj) (Pipeline.launchToks cfgs cellOf_inj), (initOf allCells allToks, (1 : Counters)))

/-- The tokens device `p` pays with. -/
def payToks (p : Dev nD) : sProp 𝕄 :=
  iprop(bigSep (Finset.range 15) (tokA p) ∗ bigSep (Finset.range 15) (tokB p) ∗ bigSep (Finset.range 15) (tokE p))

/-- What the launch element deals device `c`. -/
def G (c : Dev nD) : sProp 𝕄 :=
  iprop((bigSep Finset.univ fun k : CK => roundState ER (Rd m) (kcell (c, k)) 0)
    ∗ (bigSep Finset.univ fun k : CK => atPos ER (kcell (c, k)) 0 ∅ 0) ∗ (bigSep Finset.univ fun k : CK => reached ER (kcell (c, k)) 0) ∗ payToks c)

section NoFloat

omit [FloatOps F]

theorem fin15_eq (Ψ : ℕ → sProp 𝕄) : (bigSep Finset.univ fun a : Fin 15 => Ψ a.val) = bigSep (Finset.range 15) Ψ := by
  rw [show Finset.range 15 = (Finset.univ : Finset (Fin 15)).map Fin.valEmbedding from by decide, bigSep_map]
  rfl

theorem bigSep_five (Ψ : Fin 5 → sProp 𝕄) : bigSep Finset.univ Ψ = iprop(Ψ 0 ∗ Ψ 1 ∗ Ψ 2 ∗ Ψ 3 ∗ Ψ 4) :=
  bigSep_univ_eq_bigSepL [0, 1, 2, 3, 4] (by decide) (by decide) Ψ

theorem toks_of (p : Dev nD) :
    (bigSep Finset.univ fun x : Fin 5 × Fin 15 => (dutyTok ER (tokOf (p, x)).1 (tokOf (p, x)).2.1 (tokOf (p, x)).2.2 : sProp 𝕄)) ⊢ payToks p := by
  have h : (bigSep Finset.univ fun x : Fin 5 × Fin 15 => (dutyTok ER (tokOf (p, x)).1 (tokOf (p, x)).2.1 (tokOf (p, x)).2.2 : sProp 𝕄))
      = bigSep Finset.univ fun i : Fin 5 => bigSep Finset.univ fun a : Fin 15 => (dutyTok ER (kcell (tokCell p i a.val)) (tokRound i) p : sProp 𝕄) :=
    bigSep_univ_prod fun x : Fin 5 × Fin 15 => (dutyTok ER (tokOf (p, x)).1 (tokOf (p, x)).2.1 (tokOf (p, x)).2.2 : sProp 𝕄)
  have h2 : ∀ i : Fin 5, (bigSep Finset.univ fun a : Fin 15 => (dutyTok ER (kcell (tokCell p i a.val)) (tokRound i) p : sProp 𝕄))
      = bigSep (Finset.range 15) fun a => dutyTok ER (kcell (tokCell p i a)) (tokRound i) p := fun i =>
    fin15_eq fun a => dutyTok ER (kcell (tokCell p i a)) (tokRound i) p
  have hB : (bigSep (Finset.range 15) (tokB p) : sProp 𝕄) = iprop((bigSep (Finset.range 15) fun a => dutyTok ER (cell 0 p (peer p a)) 0 p)
      ∗ bigSep (Finset.range 15) fun a => dutyTok ER (cell 1 (peer p a) p) 0 p) := by
    rw [← bigSep_sep']; rfl
  have hE : (bigSep (Finset.range 15) (tokE p) : sProp 𝕄) = iprop((bigSep (Finset.range 15) fun a => dutyTok ER (cell 0 p (peer p a)) 1 p)
      ∗ bigSep (Finset.range 15) fun a => dutyTok ER (cell 2 (peer p a) p) 0 p) := by
    rw [← bigSep_sep']; rfl
  unfold payToks
  rw [h, bigSep_five, h2, h2, h2, h2, h2, hB, hE]
  iintro ⟨H1, H2, H3, H4, H5⟩
  isplitl [H1]; · iexact H1
  isplitl [H2 H3]
  · isplitl [H2]; · iexact H2
    iexact H3
  isplitl [H4]; · iexact H4
  iexact H5

end NoFloat

/-- The launch element is every device's part of it. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) ⊢ bigSep Finset.univ fun p : Dev nD => payToks p := by
    unfold allToks; rw [bigSep_map, bigSep_univ_prod]
    exact bigSep_mono fun p _ => toks_of p
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr'] <;> iassumption

/-! ## The invariants -/

/-- The records without the levels. -/
def recs (K : Dev nD × CK → ℕ) : sProp 𝕄 :=
  iprop((bigSep Finset.univ fun ck : Dev nD × CK => cellInv ER (Rd m) (K ck) (kcell ck))
    ∗ (bigSep Finset.univ fun ck : Dev nD × CK => (reached ER (kcell ck) 0 : sProp 𝕄)))

instance recs_persistent (K : Dev nD × CK → ℕ) : BI.Persistent (recs (F := F) m K) := by unfold recs; infer_instance

/-- What the launch hands device `c`: the records under some names, its positions and tokens, its local copies' semaphores. -/
def G' (c : Dev nD) : sProp 𝕄 := iprop(∃ K, recs m K ∗ linear c ∗ lsems c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => (reached ER (kcell (c, k)) 0 : sProp 𝕄)) ∗ linear c ∗ lsems c) := by
  unfold G linear payToks
  rw [ownSems0_eq, unscopedSems0_eq]
  have hs := Entails.of_eq (cells0_eq (F := F) c).symm
  iintro ⟨⟨Hl, Hos⟩, Hus, Hst, Hat, Hr, Htok⟩
  ihave Hv := hs $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitr [Hl]
  · isplitl [Hat]; · iexact Hat
    iexact Htok
  iexact Hl

theorem deal (K : Dev nD × CK → ℕ) (c : Dev nD) : iprop(recs m K ∗ linear c ∗ lsems c) ⊢ G' m c := by
  unfold G'
  iintro H
  iexists K
  iexact H

theorem regroup :
    (bigSep Finset.univ fun c : Dev nD => iprop((bigSep Finset.univ fun k : CK => iprop(∃ κ : ℕ, cellInv ER (Rd m) κ (kcell (c, k))))
          ∗ (bigSep Finset.univ fun k : CK => (reached ER (kcell (c, k)) 0 : sProp 𝕄)) ∗ linear c ∗ lsems c) : sProp 𝕄)
      ⊢ bigSep Finset.univ (G' m) := by
  rw [bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, HR, Hlin⟩
  ihave HK := (BI.bigSep_exists_pi Finset.univ (fun (ck : Dev nD × CK) (κ : ℕ) => (cellInv ER (Rd m) κ (kcell ck) : sProp 𝕄))) $$ HI
  icases HK with ⟨%K, HI⟩
  iapply (bigSep_with_persistent (R := recs m K) fun c _ => deal m K c)
  isplitl [HI HR]
  · unfold recs; isplitl [HI]; · iexact HI
    iexact HR
  iexact Hlin

/-- Own and barrier semaphores of every device at once, turned into the cells' invariants and each device's share. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_kcell (ck ck' : Dev nD × CK) (n : ℕ) : (tallyAt (kcell ck) () n : CellTallies nD τ sig Unit) (kcell ck') () = if ck = ck' then n else 0 := by
  rw [tallyAt_apply]
  by_cases h : ck = ck'
  · rw [if_pos h, h, if_pos ⟨rfl, rfl⟩]
  · rw [if_neg h, if_neg fun h' => h (kcell_injective h'.1.symm)]

theorem sum_peers (d : Dev nD) (f : Dev nD → CellTallies nD τ sig Unit) : (∑ a ∈ Finset.Ico 0 15, f (peer d a)) = ∑ x ∈ Finset.univ.erase d, f x := by
  rw [← Finset.range_eq_Ico, erase_peers, Finset.sum_image fun a ha b hb e => peer_inj d (Finset.mem_range.mp ha) (Finset.mem_range.mp hb) e]

/-- What device `d` owes cell `k` of device `c` at the start. -/
theorem owed (d c : Dev nD) (k : CK) : O₀ d (kcell (c, k)) () = (∑ x ∈ Finset.univ.erase d, if ((x, .inl ()) : Dev nD × CK) = (c, k) then 1 else 0)
    + (∑ x ∈ Finset.univ.erase d, if ((x, .inr (1, d)) : Dev nD × CK) = (c, k) then N else 0)
    + ∑ x ∈ Finset.univ.erase d, if ((x, .inr (2, d)) : Dev nD × CK) = (c, k) then N else 0 := by
  have h : O₀ d = (∑ x ∈ Finset.univ.erase d, tallyAt (barCell x) () 1) + (∑ x ∈ Finset.univ.erase d, tallyAt (cell 1 x d) () N)
      + ∑ x ∈ Finset.univ.erase d, tallyAt (cell 2 x d) () N := by
    unfold O₀ Ow
    rw [sum_peers d fun x => tallyAt (barCell x) () 1, sum_peers d fun x => tallyAt (cell 1 x d) () N, sum_peers d fun x => tallyAt (cell 2 x d) () N]
  rw [h, Pi.add_apply, Finsupp.add_apply, Pi.add_apply, Finsupp.add_apply, Finset.sum_apply, Finsupp.finset_sum_apply, Finset.sum_apply,
    Finsupp.finset_sum_apply, Finset.sum_apply, Finsupp.finset_sum_apply]
  simp only [tally_kcell]

theorem owed_bar (d c : Dev nD) : O₀ d (barCell c) () = if d = c then 0 else 1 := by
  rw [owed]
  have h : (∑ x ∈ Finset.univ.erase d, if ((x, .inl ()) : Dev nD × CK) = (c, .inl ()) then 1 else 0) = if d = c then 0 else 1 := by
    by_cases hd : d = c
    · rw [if_pos hd]
      exact Finset.sum_eq_zero fun x hx => if_neg fun e => (Finset.mem_erase.mp hx).1 ((Prod.mk.inj e).1.trans hd.symm)
    · rw [if_neg hd, Finset.sum_eq_single c (fun x _ hx => if_neg fun e => hx (Prod.mk.inj e).1)
        (fun hn => absurd (Finset.mem_erase.mpr ⟨fun e => hd e.symm, Finset.mem_univ c⟩) hn), if_pos rfl]
  rw [h, Finset.sum_eq_zero fun x _ => if_neg fun e => Sum.inr_ne_inl (Prod.mk.inj e).2, Finset.sum_eq_zero fun x _ => if_neg fun e => Sum.inr_ne_inl (Prod.mk.inj e).2,
    Nat.add_zero, Nat.add_zero]

theorem owed_land (d c t : Dev nD) (ht : t ≠ c) (j : Fin 3) (hj : j ≠ 0) : O₀ d (cell j c t) () = if d = t then N else 0 := by
  rw [owed, Finset.sum_eq_zero fun x _ => if_neg fun e => Sum.inl_ne_inr (Prod.mk.inj e).2, Nat.zero_add]
  have h1 : ∀ i : Fin 3, i = j → (∑ x ∈ Finset.univ.erase d, if ((x, .inr (i, d)) : Dev nD × CK) = (c, .inr (j, t)) then N else 0) = if d = t then N else 0 := by
    intro i hi
    subst hi
    by_cases hd : d = t
    · subst hd
      rw [if_pos rfl, Finset.sum_eq_single c (fun x _ hx => if_neg fun e => hx (Prod.mk.inj e).1)
        (fun hn => absurd (Finset.mem_erase.mpr ⟨fun e => ht e.symm, Finset.mem_univ c⟩) hn), if_pos rfl]
    · rw [if_neg hd]
      exact Finset.sum_eq_zero fun x _ => if_neg fun e => hd (Prod.mk.inj (Sum.inr.inj (Prod.mk.inj e).2)).2
  have h0 : ∀ i : Fin 3, i ≠ j → (∑ x ∈ Finset.univ.erase d, if ((x, .inr (i, d)) : Dev nD × CK) = (c, .inr (j, t)) then N else 0) = 0 := fun i hi =>
    Finset.sum_eq_zero fun x _ => if_neg fun e => hi (Prod.mk.inj (Sum.inr.inj (Prod.mk.inj e).2)).1
  by_cases h : j = 1
  · rw [h1 1 h.symm, h0 2 (by rw [h]; decide), Nat.add_zero]
  · have h2 : (2 : Fin 3) = j := by omega
    rw [h0 1 (fun e => h e.symm), h1 2 h2, Nat.zero_add]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_land (c t : Dev nD) (ht : t ≠ c) (j : Fin 3) (hj : j ≠ 0) :
    tallyOn (cell j c t) (launchCredit (Pipeline.owing O₀) 0 (cell j c t)) = (tallyAt (cell j c t) () N : CellTallies nD τ sig Unit) := by
  unfold tallyAt; refine congrArg _ (Finsupp.ext fun u => ?_); cases u
  rw [Pipeline.launchCredit_owing, Finsupp.single_eq_same, Finset.sum_congr rfl fun d _ => owed_land d c t ht j hj,
    Finset.sum_ite_eq' Finset.univ t fun _ => N, if_pos (Finset.mem_univ _)]

theorem creds (c : Dev nD) : (Pipeline.launchCred O₀ c : sProp 𝕄) ⊢ credits c := by
  have h1 : (Pipeline.launchCred O₀ c : sProp 𝕄) ⊢ bigSep (Finset.univ.map ⟨csem, csem_injective⟩) fun sm : SemLoc sig =>
      cred (tallyOn ((c : Thread nD τ), sm) (launchCredit (Pipeline.owing O₀) 0 ((c : Thread nD τ), sm))) :=
    bigSep_subset (Finset.subset_univ _)
  have h2 : ∀ j : Fin 3, j ≠ 0 → (bigSep (Finset.range 15) fun a =>
      (cred (tallyOn (cell j c (peer c a)) (launchCredit (Pipeline.owing O₀) 0 (cell j c (peer c a)))) : sProp 𝕄)) = bigSep (Finset.range 15) (credJ j c) :=
    fun j hj => bigSep_congr fun a ha => by
      rw [launch_land c (peer c a) (peer_ne c (Finset.mem_range.mp ha)) j hj]; rfl
  refine h1.trans ?_
  rw [bigSep_map]
  have h3 : (bigSep Finset.univ fun k : CK => (cred (tallyOn (kcell (c, k)) (launchCredit (Pipeline.owing O₀) 0 (kcell (c, k)))) : sProp 𝕄)) ⊢ credits c := by
    rw [cells_eq c, h2 1 (by decide), h2 2 (by decide), launch_bar]
    unfold credits
    iintro ⟨Hb, -, ⟨-, H1⟩, ⟨-, H2⟩⟩
    isplitl [Hb]; · iexact Hb
    isplitl [H1] <;> iassumption
  exact h3

end Cert.KernelIdealProof

end
-- ==== Proof.Run.lean ====
/-
# Run — every fair run of the program ends, with its result known

The pipeline's data, the body's obligation, the launch, and what the run leaves: every array window holds what the data say, the two
weights are as they were, and every semaphore counter is at zero.
-/
module

public import proofs.«01_k».proof.Proof.Start
public import proofs.«01_k».proof.Proof.Gen.KernelIdeal.Points
public import proofs.«01_k».proof.Proof.Gen.KernelIdeal.Launch
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device's body starts from besides the scratch. -/
def start (c : Dev nD) : sProp 𝕄 := iprop((∃ K, records m K ∗ linear c) ∗ credits c ∗ weights m c ∗ lsems c)

def Φ₀ (c : Dev nD) : sProp 𝕄 := iprop(start m c ∗ scratch c)
def Φ₁ (c : Dev nD) : sProp 𝕄 :=
  iprop(scratch c ∗ weights m c ∗ lsems c ∗ bigSep Finset.univ fun k : CK => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => kstg m c
    | ⟨2, _⟩ => vstg m c
    | ⟨3, _⟩ => outBuf m
  Φ t := match t with
    | ⟨0, _⟩ => Φ₀ m c
    | ⟨_ + 1, _⟩ => Φ₁ m c
  q _ := fullShare
  owed t := match t with
    | ⟨0, _⟩ => O₀ c
    | ⟨_ + 1, _⟩ => 0

section NoFloat

omit [FloatOps F]

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end NoFloat

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ ∗ stg c cc0_stg0_0 (xstg m c) ∗ stg c cc0_stg1_0 (kstg m c) ∗ stg c cc0_stg2_0 (vstg m c)
    ∗ stg c cc0_stg3_0 (outBuf m))

/-- The staged operands are as fetched. -/
theorem before_x (c : Dev nD) (d) : (dats m 0 c).before (0 : Fin 4) t0_0 d = xstg m c := by
  unfold Dat.before; rw [if_pos (fetch0_0 t0_0)]; rfl
theorem before_k (c : Dev nD) (d) : (dats m 0 c).before (1 : Fin 4) t0_0 d = kstg m c := by
  unfold Dat.before; rw [if_pos (fetch0_1 t0_0)]; rfl
theorem before_v (c : Dev nD) (d) : (dats m 0 c).before (2 : Fin 4) t0_0 d = vstg m c := by
  unfold Dat.before; rw [if_pos (fetch0_2 t0_0)]; rfl

/-- What the pipeline hands the body is what the body starts from. -/
theorem body_open (c : Dev nD) : bodyPre m c ⊢ iprop(∃ K, bodyIn m K c) := by
  unfold bodyPre Φ₀ start
  iintro ⟨⟨⟨⟨%K, Hrec, Hlin⟩, Hcr, Hw, Hl⟩, Hscr⟩, Ho, ⟨%d0, Hx⟩, ⟨%d1, Hk⟩, ⟨%d2, Hv⟩, ⟨%d3, Hout⟩⟩
  ihave Hx' := (Entails.of_eq (congrArg (fun X => stg (F := F) c cc0_stg0_0 X) (before_x m c d0))) $$ Hx
  ihave Hk' := (Entails.of_eq (congrArg (fun X => stg (F := F) c cc0_stg1_0 X) (before_k m c d1))) $$ Hk
  ihave Hv' := (Entails.of_eq (congrArg (fun X => stg (F := F) c cc0_stg2_0 X) (before_v m c d2))) $$ Hv
  icases Hx' with ⟨%fx, %hx, Hx⟩
  icases Hk' with ⟨%fk, %hk, Hk⟩
  icases Hv' with ⟨%fv, %hv, Hv⟩
  icases Hout with ⟨%fo, -, Hout⟩
  icases Ho with ⟨%W, -, HO⟩
  subst hx hk hv
  iexists K
  unfold bodyIn owesAny opI
  isplitl [Hrec]; · iexact Hrec
  isplitl [HO]; · iexists W; iexact HO
  isplitl [Hlin]; · iexact Hlin
  isplitl [Hcr]; · iexact Hcr
  isplitl [Hx Hk Hv]
  · isplitl [Hx]; · iexact Hx
    isplitl [Hk]; · iexact Hk
    iexact Hv
  isplitl [Hout]; · iexists fo; iexact Hout
  isplitl [Hscr]; · iexact Hscr
  isplitl [Hw]; · iexact Hw
  iexact Hl

/-- What the body ends with is what the pipeline takes back. -/
theorem body_close (c : Dev nD) : bodyOut m c ⊢ bodyPost m c := by
  unfold bodyOut bodyPost Φ₁ owesAny opI
  iintro ⟨⟨%W, HO⟩, ⟨Hx, Hk, Hv⟩, Hout, Hscr, Hw, Hl, Hz⟩
  isplitl [Hscr Hw Hl Hz]
  · isplitl [Hscr]; · iexact Hscr
    isplitl [Hw]; · iexact Hw
    isplitl [Hl]; · iexact Hl
    iexact Hz
  isplitl [HO]
  · iexists W; isplitr; · ipureintro; exact fun _ _ => Or.inl trivial
    iexact HO
  isplitl [Hx]
  · iexists (xstg m c); isplitr; · ipureintro; rfl
    iexact Hx
  isplitl [Hk]
  · iexists (kstg m c); isplitr; · ipureintro; rfl
    iexact Hk
  isplitl [Hv]
  · iexists (vstg m c); isplitr; · ipureintro; rfl
    iexact Hv
  iexists (outBuf m); isplitr; · ipureintro; rfl
  iexact Hout

theorem sound_body (c : Dev nD) : bodyPre m c ⊢ WP c (atArgs (cc0_body (F := F))) fun _ => bodyPost m c := by
  have h1 := body_open (F := F) m c
  have h2 : ∀ K, bodyIn m K c ⊢ WP c (atArgs (cc0_body (F := F))) fun _ => bodyPost m c := fun K =>
    (body_spec m K c (m ((c : Thread nD τ).loc cc0_scratch3))).trans (wp_mono _ _ _ fun _ => body_close m c)
  iintro H
  ihave H' := h1 $$ H
  icases H' with ⟨%K, H'⟩
  iapply (h2 K)
  iexact H'

set_option maxRecDepth 16384 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ (bodyAt0 (F := F) t0_0) (fun _ => bodyPost m c)
  exact sound_body m c

/-! ## The launch -/

theorem osem_injective : Function.Injective osem := by
  rintro (i | p) (i' | p') h
  · fin_cases i <;> fin_cases i' <;> first | rfl | exact absurd h (by decide)
  · exfalso; revert h; fin_cases i <;> revert p' <;> decide
  · exfalso; revert h; fin_cases i' <;> revert p <;> decide
  · exact congrArg Sum.inr (Sum.inr.inj (csem_injective h))

theorem ownSemFacts : Pipeline.OwnSemFacts cfg0.spec osem where
  isScoped := by decide
  inj := osem_injective
  disj := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  have hc := creds (F := F) c
  unfold start G' weights recs records
  iintro ⟨⟨Hq, Ho⟩, Hlev, Hcr, -, ⟨%K, ⟨HI, HR⟩, Hlin, Hl⟩⟩
  ihave Hc := hc $$ Hcr
  imodintro
  isplitl
  · isplitl [HI HR Hlev Hlin]
    · iexists K
      isplitl [HI HR Hlev]
      · isplitl [HI]; · iexact HI
        isplitl [HR]; · iexact HR
        iexact Hlev
      iexact Hlin
    isplitl [Hc]; · iexact Hc
    isplitl [Hq Ho]
    · isplitl [Hq]; · iexact Hq
      iexact Ho
    iexact Hl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, H0, H1, H2, H3⟩
  isplitl [Hs]; · iexact Hs
  isplitl [H0]; · iexact H0
  isplitl [H1]; · iexact H1
  isplitl [H2]; · iexact H2
  iexact H3

/-- What the end of the run is read from. -/
def ended (c : Dev nD) : sProp 𝕄 := iprop(unscopedSems0 c ∗ weights m c)

theorem phi1_exit (c : Dev nD) :
    (dats m 0 c).Φ (Fin.last cfg0.N) ⊢ iprop(ended m c ∗ Pipeline.ownSems0 osem c ∗ Pipeline.scopedRest cfg0.spec c) := by
  have hz := Entails.of_eq (cells0_eq (F := F) c)
  rw [show (dats m 0 c).Φ (Fin.last cfg0.N) = Φ₁ m c from rfl, scopedRest0_eq, ownSems0_eq]
  unfold Φ₁ scratch ended
  rw [unscopedSems0_eq]
  iintro ⟨⟨H0, H1, H2, H3⟩, Hw, Hl, Hz⟩
  ihave Hz' := hz $$ Hz
  icases Hz' with ⟨HB, HF⟩
  isplitl [HB Hw]
  · isplitl [HB]; · iexact HB
    iexact Hw
  isplitl [Hl HF]
  · isplitl [Hl]; · iexact Hl
    iexact HF
  isplitl [H0]; · iexact H0
  isplitl [H1]; · iexact H1
  isplitl [H2]; · iexact H2
  iexact H3

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide) 0 0 0
    · show _ ⊢ MayWait _ _ _ 0
      rw [MayWait_zero]; iintro -; iempintro

/-- What a device's part of the final memory is known to be besides its windows' arrays. -/
def endAt (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_arg4) = m ((c : Thread nD τ).loc main_arg4)

theorem read_end (c : Dev nD) (s' : Phys nD τ sig (Elt F)) :
    iprop(ended m c ∗ emp ∗ SI s') ⊢ |={Set.univ}=> iprop(⌜endAt m c s'.mem⌝ ∗ SI s') := by
  unfold ended weights
  have h1 : ∀ (ℓ : Loc nD τ sig) (f : Buf (Elt F) ℓ), iprop((ℓ ↦{fullShare} f) ∗ SI s') ⊢ (iprop(⌜s'.mem.mem ℓ = f⌝ ∗ SI s') : sProp 𝕄) := fun ℓ f => by
    have h := pointsTo_read_all (Ix := Unit) (Name := ℕ) (U := UU) (Lvl := ℕ) (Finset.univ : Finset (Fin 1)) (fun _ => ℓ) (fun _ => f) s' fullShare
    rw [BI.bigSep_univ_of_subsingleton (i := (0 : Fin 1))] at h
    refine h.trans ?_
    iintro ⟨%hh, HS⟩
    isplitr
    · ipureintro; exact hh 0 (Finset.mem_univ _)
    iexact HS
  iintro ⟨⟨Hu, Hq, Ho⟩, -, HSI⟩
  ihave Hr := (h1 ((c : Thread nD τ).loc main_arg1) (m ((c : Thread nD τ).loc main_arg1))) $$ [Hq HSI]
  · isplitl [Hq]; · iexact Hq
    iexact HSI
  icases Hr with ⟨%e1, HSI⟩
  ihave Hr := (h1 ((c : Thread nD τ).loc main_arg4) (m ((c : Thread nD τ).loc main_arg4))) $$ [Ho HSI]
  · isplitl [Ho]; · iexact Ho
    iexact HSI
  icases Hr with ⟨%e4, HSI⟩
  imod (Pipeline.unscopedSems0_read (X := unscopedSems0 c) (c := c) fupd_intro s') $$ [Hu HSI] with ⟨%hz, HSI⟩
  · isplitl [Hu] <;> iassumption
  imodintro
  isplitr
  · ipureintro; exact ⟨hz, e1, e4⟩
  iexact HSI

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1) ∧ r.2.mem ((c : Thread nD τ).loc main_arg4) = m ((c : Thread nD τ).loc main_arg4)

omit [FloatOps F] in
theorem ownU_three (a : UR sig nD τ) (b : UX) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The launch element: the pipeline's part and every device's part of the exchange. -/
theorem fund : (ownU u₀ : sProp 𝕄)
    ⊢ |={Set.univ}=> iprop(BI.own (EP (initOf (Pipeline.cells cfgs cellOf_inj) (Pipeline.launchToks cfgs cellOf_inj))) ∗ bigSep Finset.univ (G m)) := by
  have h1 := ownU_three (F := F) (initOf (Pipeline.cells cfgs cellOf_inj) (Pipeline.launchToks cfgs cellOf_inj)) (initOf allCells allToks)
  have h2 := fund_all (F := F) m
  unfold u₀
  iintro Hu
  ihave H := h1 $$ Hu
  icases H with ⟨HP, HX⟩
  imod h2 $$ HX with HG
  imodintro
  isplitl [HP] <;> iassumption

theorem main_eq (c : Dev nD) : main (F := F) c = .op (.customCall (Pipeline.entry 0) ()) fun _ => .ret ⟨⟩ := rfl

set_option maxRecDepth 200000 in
/-- From any memory with zero counters every weakly fair run of the program on the sixteen devices ends, with the arrays as the data say,
    the weights unchanged and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := main_eq)
    (hbody := fun c => (body_obligation m c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund m)
    (hglob := glob m)
    (hA := fun _ _ => rfl) (hpf := fun _ k => k.elim0)
    (X := start m) (Y := ended m) (Z := fun _ => iprop(emp))
    (hX := start_intro m ρ) (hin := phi0_intro m) (hout := phi1_exit m)
    (QY := endAt m)
    (hY := read_end m)
    (hQ := fun _ h hs => ⟨fun c => ⟨(h c).1, (h c).2.2.2⟩, sem_eq_zero hs fun c => (h c).2.2.1⟩)

/-- The operands' arrays are as they were. -/
theorem finalA_x (c : Dev nD) : finalA m c (0 : Fin 4) = m ((c : Thread nD τ).loc main_arg0) := (dats m 0 c).arrAt_in (0 : Fin 4) rfl _
theorem finalA_k (c : Dev nD) : finalA m c (1 : Fin 4) = m ((c : Thread nD τ).loc main_arg2) := (dats m 0 c).arrAt_in (1 : Fin 4) rfl _
theorem finalA_v (c : Dev nD) : finalA m c (2 : Fin 4) = m ((c : Thread nD τ).loc main_arg3) := (dats m 0 c).arrAt_in (2 : Fin 4) rfl _

/-- The result's array, read as its one block, is the whole result. -/
theorem finalA_o (c : Dev nD) : (win0_3.blk (0 : Fin 1)).view.read (Elt F) (finalA m c (3 : Fin 4)) = outBuf m := by
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from flush0_3 _, if_pos rfl]
  exact View.read_write_univ _ _

end Cert.KernelIdealProof

end
-- ==== Proof.Frames.lean ====
/-
# Frames — the three programs run, leave their arguments as they were, and end with every counter at zero
-/
module

public import proofs.«01_k».proof.Defs
public import proofs.«01_k».proof.Proof.Run
public import proofs.«01_k».proof.Proof.Bits.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel at the machine's floats. -/
theorem frame_kernel : Cert.quiescent_Kernel := by
  intro m g _
  exact (θ_run Cert.Kernel.defs _ _).mono (fun _ h => ⟨fun c => ⟨((h.1 c).1 (0 : Fin 4)).trans (Cert.KernelProof.finalA_x m c), (h.1 c).2.1,
      ((h.1 c).1 (1 : Fin 4)).trans (Cert.KernelProof.finalA_k m c), ((h.1 c).1 (2 : Fin 4)).trans (Cert.KernelProof.finalA_v m c), (h.1 c).2.2⟩, h.2⟩)
    (Cert.KernelProof.run_main (F := Bits) m g)

/-- The kernel over the reals. -/
theorem frame_ideal : Cert.quiescent_KernelIdeal := by
  intro m g _
  exact (θ_run Cert.KernelIdeal.defs _ _).mono (fun _ h => ⟨fun c => ⟨((h.1 c).1 (0 : Fin 4)).trans (Cert.KernelIdealProof.finalA_x m c), (h.1 c).2.1,
      ((h.1 c).1 (1 : Fin 4)).trans (Cert.KernelIdealProof.finalA_k m c), ((h.1 c).1 (2 : Fin 4)).trans (Cert.KernelIdealProof.finalA_v m c), (h.1 c).2.2⟩, h.2⟩)
    (Cert.KernelIdealProof.run_main (F := Ideal) m g)

/-- The reference over the reals. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Attn.lean ====
/-
# Attn — the attention of one head, in plain mathematics

The score of a query and a key, the softmax of a row of scores kept near the diagonal, and the weighted sum of values, over the
extended reals and indexed by numbers; and the kernel's sequence of vector operations for one head, shown to compute it.
-/
module

public import proofs.«01_k».proof.Proof.Gen.KernelIdeal.Skeleton
public import Idealize.ShloMosaic.Lib.MatmulPlain
public import Idealize.ShloMosaic.Lib.ValueIdx
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.ShloMosaic.ValueIdx

/-! ## The mathematics -/

/-- Whether key `j` is within the window of query `i`, as the kernel's word for it. -/
def near (i j : Fin 256) : BitVec 1 := k0_pay1 (ix2 i j)

/-- The score of query `i` and key `j`: their scaled product inside the window, the large negative constant outside. -/
def score (q k : Fin 256 → Fin 64 → EReal) (i j : Fin 256) : EReal :=
  Scalar.select (near i j) ((∑ d : Fin 64, q i d * k j d) * Ideal.ofBits .f32 0x3E000000#32) (Ideal.ofBits .f32 0xCE6E6B28#32)

/-- The greatest entry of a row. -/
def top (s : Fin 256 → EReal) : EReal := Finset.univ.fold max (Ideal.ofBits .f32 0xFF800000#32) s
/-- The exponential of an entry less the greatest. -/
def part (s : Fin 256 → EReal) (j : Fin 256) : EReal := Ideal.exp (s j - top s)
/-- The softmax of a row. -/
def soft (s : Fin 256 → EReal) (j : Fin 256) : EReal := Ideal.div (part s j) (∑ j' : Fin 256, part s j')
/-- One head's context: the values weighted by the softmax of the query's scores. -/
def ctx (q k v : Fin 256 → Fin 64 → EReal) (i : Fin 256) (d : Fin 64) : EReal := ∑ j : Fin 256, soft (score q k i) j * v j d

/-! ## The kernel's operations for one head -/

/-- The kernel's scaling and masking of a block of products. -/
def kMask (s : FVec Ideal S256x256 .f32) : FVec Ideal S256x256 .f32 :=
  select k0_pay1 (mulf s (broadcast S256x256 (Scalar.ofBits .f32 0x3E000000#32))) (broadcast S256x256 (Scalar.ofBits .f32 0xCE6E6B28#32))
/-- A vector of row values laid along the rows. -/
def kRows (x : FVec Ideal S256 .f32) : FVec Ideal S256x256 .f32 :=
  broadcastTo S256x256 (shapeCast S256x1 x shapeCasts_S256_S256x1) broadcasts_S256x1_S256x256
/-- The kernel's exponentials of a block of scores less each row's greatest. -/
def kExp (s : FVec Ideal S256x256 .f32) : FVec Ideal S256x256 .f32 :=
  exp (subf s (kRows (multiReduction .maximumf [1] S256 s 0xFF800000#32 reduces_S256x256_S256 (.inl rfl) rfl)))
/-- The kernel's softmax of a block of scores. -/
def kSoft (s : FVec Ideal S256x256 .f32) : FVec Ideal S256x256 .f32 :=
  divf (kExp s) (kRows (multiReduction .add [1] S256 (kExp s) 0x00000000#32 reduces_S256x256_S256 (.inl rfl) rfl))
/-- The kernel's context of one head. -/
def kCtx (q k v : FVec Ideal S256x64 .f32) : FVec Ideal S256x64 .f32 :=
  matmul dot_S256x256_S256x64_S256x64_1_0_0_1_n_n none
    (kSoft (kMask (matmul dot_S256x64_S256x64_S256x256_1_1_0_0_n_n none q k (constant S256x256 .f32 0x00000000#32)))) v
    (constant S256x64 .f32 0x00000000#32)
/-- The kernel's product of a head's context with the head's rows of the output weights, added to what is there. -/
def kAdd (a : FVec Ideal S256x512 .f32) (x : FVec Ideal S256x64 .f32) (w : FVec Ideal S64x512 .f32) : FVec Ideal S256x512 .f32 :=
  addf a (matmul dot_S256x64_S64x512_S256x512_1_0_0_1_n_n none x w (constant S256x512 .f32 0x00000000#32))

/-- A vector laid along the rows holds its row's value. -/
theorem kRows_apply (x : FVec Ideal S256 .f32) (i j : Fin 256) : kRows x (ix2 i j) = x (ix1 i) := by
  have hi : i.val < 256 := i.isLt
  unfold kRows
  rw [broadcastTo_apply _ _ (ix2 i j) (ix2 i (0 : Fin 1) : S256x1.Idx) (fun a => match a with | ⟨0, _⟩ => rfl | ⟨1, _⟩ => rfl)]
  refine shapeCast_apply _ _ _ (ix1 i) ?_
  rw [Shape.rowMajor_val_two]
  show (S256.rowMajor (ix1 i)).val = i.val * 1 + 0
  rw [Shape.rowMajor_val_one]
  simp

/-- A row's greatest entry. -/
theorem kMax_apply (s : FVec Ideal S256x256 .f32) (i : Fin 256) :
    multiReduction .maximumf [1] S256 s 0xFF800000#32 reduces_S256x256_S256 (.inl rfl) rfl (ix1 i) = top (fun j => s (ix2 i j)) := by
  refine (Ideal.multiReduction_maximumf_single _ _ reduces_S256x256_S256 _ _ _).trans ?_
  refine congrArg (Finset.univ.fold max _) (funext fun k => congrArg s ?_)
  funext a
  match a with
  | ⟨0, _⟩ => rfl
  | ⟨1, _⟩ => rfl

/-- A row's sum. -/
theorem kSum_apply (s : FVec Ideal S256x256 .f32) (i : Fin 256) :
    multiReduction .add [1] S256 s 0x00000000#32 reduces_S256x256_S256 (.inl rfl) rfl (ix1 i) = ∑ j : Fin 256, s (ix2 i j) := by
  refine (Ideal.multiReduction_add_single _ _ reduces_S256x256_S256 _ _ _).trans ?_
  refine Finset.sum_congr rfl fun k _ => congrArg s ?_
  funext a
  match a with
  | ⟨0, _⟩ => rfl
  | ⟨1, _⟩ => rfl

/-- The kernel's exponentials are the rows' exponentials. -/
theorem kExp_apply (s : FVec Ideal S256x256 .f32) (i j : Fin 256) : kExp s (ix2 i j) = part (fun j => s (ix2 i j)) j := by
  show Ideal.exp (s (ix2 i j) - kRows _ (ix2 i j)) = _
  rw [kRows_apply, kMax_apply]
  rfl

/-- The kernel's softmax is the rows' softmax. -/
theorem kSoft_apply (s : FVec Ideal S256x256 .f32) (i j : Fin 256) : kSoft s (ix2 i j) = soft (fun j => s (ix2 i j)) j := by
  show Ideal.div (kExp s (ix2 i j)) (kRows _ (ix2 i j)) = _
  rw [kRows_apply, kSum_apply, kExp_apply]
  unfold soft
  exact congrArg _ (Finset.sum_congr rfl fun k _ => kExp_apply s i k)

/-- A product into zero, read at a place. -/
theorem kScore_apply (q k : FVec Ideal S256x64 .f32) (i j : Fin 256) :
    kMask (matmul dot_S256x64_S256x64_S256x256_1_1_0_0_n_n none q k (constant S256x256 .f32 0x00000000#32)) (ix2 i j)
      = score (fun i d => q (ix2 i d)) (fun j d => k (ix2 j d)) i j := by
  have h : matmul dot_S256x64_S256x64_S256x256_1_1_0_0_n_n none q k (constant S256x256 .f32 0x00000000#32) (ix2 i j)
      = ∑ d : Fin 64, q (ix2 i d) * k (ix2 j d) := by
    refine (Ideal.matmul_transposedRhs_apply (M := 256) (K := 64) (N := 256) none q k _ i j).trans ?_
    rw [constant_apply, Ideal.ofBits_zero_f32, zero_add]
  show Scalar.select (near i j) (_ * Ideal.ofBits .f32 0x3E000000#32) (Ideal.ofBits .f32 0xCE6E6B28#32) = _
  rw [h]; rfl

/-- The kernel's context is the head's context. -/
theorem kCtx_apply (q k v : FVec Ideal S256x64 .f32) (i : Fin 256) (d : Fin 64) :
    kCtx q k v (ix2 i d) = ctx (fun i d => q (ix2 i d)) (fun j d => k (ix2 j d)) (fun j d => v (ix2 j d)) i d := by
  refine (Ideal.matmul_plain_apply (M := 256) (K := 256) (N := 64) none _ v _ i d).trans ?_
  rw [constant_apply, Ideal.ofBits_zero_f32, zero_add]
  refine Finset.sum_congr rfl fun j _ => ?_
  rw [kSoft_apply]
  exact congrArg (soft · j * v (ix2 j d)) (funext fun j => kScore_apply q k i j)

/-- The product with the output weights, read at a place. -/
theorem kAdd_apply (a : FVec Ideal S256x512 .f32) (x : FVec Ideal S256x64 .f32) (w : FVec Ideal S64x512 .f32) (i : Fin 256) (n : Fin 512) :
    kAdd a x w (ix2 i n) = a (ix2 i n) + ∑ d : Fin 64, x (ix2 i d) * w (ix2 d n) := by
  refine congrArg (a (ix2 i n) + ·) ((Ideal.matmul_plain_apply (M := 256) (K := 64) (N := 512) none x w _ i n).trans ?_)
  rw [constant_apply, Ideal.ofBits_zero_f32, zero_add]

end Cert.KernelIdealProof

end
-- ==== Proof.AccVal.lean ====
/-
# AccVal — a device's partial product, element by element

The two halves of a device's partial product, as the sum over its four heads of the head's context times the head's rows of the output
weights.
-/
module

public import proofs.«01_k».proof.Proof.Attn
public import proofs.«01_k».proof.Proof.Contents

@[expose] public section

noncomputable section

namespace Cert.KernelIdealProof

open Cert.KernelIdeal Cert.KernelIdeal.Gen

open Idealize.ShloMosaic
open Idealize.ShloMosaic.TcCoe
open Idealize.ShloMosaic.ValueIdx

/-! ## One head's operands -/

/-- The queries of head `h` in batch `b`: the batch's rows times the head's columns of the query weights. -/
def qOf (X : FVec Ideal S2x256x512 .f32) (Wq : FVec Ideal S512x256 .f32) (b : Fin 2) (h : Fin 4) (i : Fin 256) (d : Fin 64) : EReal :=
  ∑ e : Fin 512, X (ix3 b i e) * Wq (ix2 e ⟨64 * h.val + d.val, by omega⟩)
/-- Head `h`'s rows in batch `b` of keys or values. -/
def hOf (K : FVec Ideal S2x256x4x64 .f32) (b : Fin 2) (h : Fin 4) (j : Fin 256) (d : Fin 64) : EReal := K (ix4 b j h d)
/-- A device's partial product at batch `b`, row `i`, column `n`. -/
def accVal (X : FVec Ideal S2x256x512 .f32) (K V : FVec Ideal S2x256x4x64 .f32) (Wq : FVec Ideal S512x256 .f32) (Wo : FVec Ideal S256x512 .f32)
    (b : Fin 2) (i : Fin 256) (n : Fin 512) : EReal :=
  ∑ h : Fin 4, ∑ d : Fin 64, ctx (qOf X Wq b h) (hOf K b h) (hOf V b h) i d * Wo (ix2 ⟨64 * h.val + d.val, by omega⟩ n)

/-! ## The kernel's operands for a head -/

/-- The query product of a loaded batch, read at a place. -/
theorem kQ_apply (x : FVec Ideal S1x256x512 .f32) (w : FVec Ideal S512x256 .f32) (i : Fin 256) (n : Fin 256) :
    k0_pay2 (F := Ideal) x w (ix2 i n) = ∑ e : Fin 512, x (ix3 (0 : Fin 1) i e) * w (ix2 e n) := by
  refine (Ideal.matmul_plain_apply (M := 256) (K := 512) (N := 256) none _ w _ i n).trans ?_
  rw [constant_apply, Ideal.ofBits_zero_f32, zero_add]
  exact Finset.sum_congr rfl fun e _ => congrArg (· * w (ix2 e n)) (shapeCast_1ab_ab_apply x _ i e)

/-- One head's slice of the batch's queries. -/
def sliceQ (q : FVec Ideal S256x256 .f32) (h : Fin 4) (i : Fin 256) (d : Fin 64) : EReal := q (ix2 i ⟨64 * h.val + d.val, by omega⟩)

/-- A loaded head cast to a matrix, read at a place. -/
theorem castH_apply (x : FVec Ideal S1x256x1x64 .f32) (j : Fin 256) (d : Fin 64) :
    shapeCast S256x64 x shapeCasts_S1x256x1x64_S256x64 (ix2 j d) = x (ix4 (0 : Fin 1) j (0 : Fin 1) d) :=
  shapeCast_apply _ _ _ _ (by
    rw [Shape.rowMajor_val_two, Shape.rowMajor_val_four]
    show _ = j.val * 64 + d.val
    show ((0 * 256 + j.val) * 1 + 0) * 64 + d.val = _
    omega)

/-- A loaded head as a matrix. -/
def kvMat (x : FVec Ideal S1x256x1x64 .f32) : FVec Ideal S256x64 .f32 := shapeCast S256x64 x shapeCasts_S1x256x1x64_S256x64

/-! ## Half of the partial product -/

/-- The four heads' products with the output weights, added in the kernel's order. -/
def kHalf (q : FVec Ideal S256x256 .f32) (k v : Fin 4 → FVec Ideal S1x256x1x64 .f32) (w : Fin 4 → FVec Ideal S64x512 .f32) :
    FVec Ideal S256x512 .f32 :=
  kAdd (kAdd (kAdd (kAdd (broadcast S256x512 (Scalar.ofBits .f32 0x00000000#32))
    (kCtx (extractStridedSlice S256x64 ![0, 0] q slices_S256x256_o0_0_S256x64) (kvMat (k 0)) (kvMat (v 0))) (w 0))
    (kCtx (extractStridedSlice S256x64 ![0, 64] q slices_S256x256_o0_64_S256x64) (kvMat (k 1)) (kvMat (v 1))) (w 1))
    (kCtx (extractStridedSlice S256x64 ![0, 128] q slices_S256x256_o0_128_S256x64) (kvMat (k 2)) (kvMat (v 2))) (w 2))
    (kCtx (extractStridedSlice S256x64 ![0, 192] q slices_S256x256_o0_192_S256x64) (kvMat (k 3)) (kvMat (v 3))) (w 3)

/-- One head's context from its slices and casts. -/
theorem kHead_apply (q : FVec Ideal S256x256 .f32) (o : ℕ) (ho : S256x256.Slices ![0, o] S256x64) (h : Fin 4) (e : o = 64 * h.val)
    (k v : FVec Ideal S1x256x1x64 .f32) (i : Fin 256) (d : Fin 64) :
    kCtx (extractStridedSlice S256x64 ![0, o] q ho) (kvMat k) (kvMat v) (ix2 i d)
      = ctx (sliceQ q h) (fun j d => k (ix4 (0 : Fin 1) j (0 : Fin 1) d)) (fun j d => v (ix4 (0 : Fin 1) j (0 : Fin 1) d)) i d := by
  subst e
  rw [kCtx_apply]
  have e1 : (fun i d => extractStridedSlice S256x64 ![0, 64 * h.val] q ho (ix2 i d)) = sliceQ q h :=
    funext fun i => funext fun d => slice2_axis1_apply (n0 := 256) (n1 := 256) (m := 64) _ q ho i d _ rfl
  have e2 : ∀ x : FVec Ideal S1x256x1x64 .f32, (fun j d => kvMat x (ix2 j d)) = fun (j : Fin 256) (d : Fin 64) => x (ix4 (0 : Fin 1) j (0 : Fin 1) d) :=
    fun x => funext fun j => funext fun d => castH_apply x j d
  rw [e1, e2, e2]

/-- Half of the partial product, element by element. -/
theorem kHalf_apply (q : FVec Ideal S256x256 .f32) (k v : Fin 4 → FVec Ideal S1x256x1x64 .f32) (w : Fin 4 → FVec Ideal S64x512 .f32)
    (i : Fin 256) (n : Fin 512) :
    kHalf q k v w (ix2 i n) = ∑ h : Fin 4, ∑ d : Fin 64,
      ctx (sliceQ q h) (fun j d => k h (ix4 (0 : Fin 1) j (0 : Fin 1) d)) (fun j d => v h (ix4 (0 : Fin 1) j (0 : Fin 1) d)) i d * w h (ix2 d n) := by
  unfold kHalf
  rw [kAdd_apply, kAdd_apply, kAdd_apply, kAdd_apply, Fin.sum_univ_four]
  have z : broadcast S256x512 (Scalar.ofBits .f32 0x00000000#32 : Ideal .f32) (ix2 i n) = (0 : EReal) := Ideal.ofBits_zero_f32
  rw [z, zero_add]
  refine congrArg₂ (· + ·) (congrArg₂ (· + ·) (congrArg₂ (· + ·) ?_ ?_) ?_) ?_
  · exact Finset.sum_congr rfl fun d _ => congrArg (· * w 0 (ix2 d n)) (kHead_apply q 0 slices_S256x256_o0_0_S256x64 0 rfl (k 0) (v 0) i d)
  · exact Finset.sum_congr rfl fun d _ => congrArg (· * w 1 (ix2 d n)) (kHead_apply q 64 slices_S256x256_o0_64_S256x64 1 rfl (k 1) (v 1) i d)
  · exact Finset.sum_congr rfl fun d _ => congrArg (· * w 2 (ix2 d n)) (kHead_apply q 128 slices_S256x256_o0_128_S256x64 2 rfl (k 2) (v 2) i d)
  · exact Finset.sum_congr rfl fun d _ => congrArg (· * w 3 (ix2 d n)) (kHead_apply q 192 slices_S256x256_o0_192_S256x64 3 rfl (k 3) (v 3) i d)

section Loads

variable (X : FVec Ideal S2x256x512 .f32) (K V : FVec Ideal S2x256x4x64 .f32) (Wq : FVec Ideal S512x256 .f32) (Wo : FVec Ideal S256x512 .f32)

/-- The four loaded heads of batch 0. -/
def lds0 : Fin 4 → FVec Ideal S1x256x1x64 .f32 := ![ldK00 (F := Ideal) K, ldK01 (F := Ideal) K, ldK02 (F := Ideal) K, ldK03 (F := Ideal) K]
/-- The four loaded heads of batch 1. -/
def lds1 : Fin 4 → FVec Ideal S1x256x1x64 .f32 := ![ldK10 (F := Ideal) K, ldK11 (F := Ideal) K, ldK12 (F := Ideal) K, ldK13 (F := Ideal) K]
/-- The four loaded blocks of rows of the output weights. -/
def ldsW : Fin 4 → FVec Ideal S64x512 .f32 := ![ldWo0 (F := Ideal) Wo, ldWo1 (F := Ideal) Wo, ldWo2 (F := Ideal) Wo, ldWo3 (F := Ideal) Wo]

theorem lds0_apply (h : Fin 4) (j : Fin 256) (d : Fin 64) : lds0 K h (ix4 (0 : Fin 1) j (0 : Fin 1) d) = K (ix4 (0 : Fin 2) j h d) := by
  revert h
  refine Fin.forall_fin_succ.mpr ⟨?_, Fin.forall_fin_succ.mpr ⟨?_, Fin.forall_fin_succ.mpr ⟨?_, Fin.forall_fin_succ.mpr ⟨?_, fun h => h.elim0⟩⟩⟩⟩
  all_goals
    refine congrArg K (funext fun a => Fin.ext ?_)
    match a with
    | ⟨0, _⟩ => rfl
    | ⟨1, _⟩ => show 0 + 1 * j.val = j.val; omega
    | ⟨2, _⟩ => rfl
    | ⟨3, _⟩ => show 0 + 1 * d.val = d.val; omega
theorem lds1_apply (h : Fin 4) (j : Fin 256) (d : Fin 64) : lds1 K h (ix4 (0 : Fin 1) j (0 : Fin 1) d) = K (ix4 (1 : Fin 2) j h d) := by
  revert h
  refine Fin.forall_fin_succ.mpr ⟨?_, Fin.forall_fin_succ.mpr ⟨?_, Fin.forall_fin_succ.mpr ⟨?_, Fin.forall_fin_succ.mpr ⟨?_, fun h => h.elim0⟩⟩⟩⟩
  all_goals
    refine congrArg K (funext fun a => Fin.ext ?_)
    match a with
    | ⟨0, _⟩ => rfl
    | ⟨1, _⟩ => show 0 + 1 * j.val = j.val; omega
    | ⟨2, _⟩ => rfl
    | ⟨3, _⟩ => show 0 + 1 * d.val = d.val; omega
/-- A load of 64 rows of the output weights from row `o`, read at a place. -/
theorem ldW_apply (o : ℕ) (inb : ∀ a, (![o, 0] : Fin 2 → ℕ) a + S64x512.size a ≤ S256x512.size a) (d : Fin 64) (n : Fin 512) (k : Fin 256)
    (hk : k.val = o + d.val) :
    (woM.view.readAt (Elt Ideal) (Rect.unit (s := S256x512) ![o, 0] S64x512.size inb).toLoadRect Wo : FVec Ideal S64x512 .f32) (ix2 d n) = Wo (ix2 k n) := by
  refine congrArg Wo (funext fun a => Fin.ext ?_)
  match a with
  | ⟨0, _⟩ => show o + 1 * d.val = k.val; omega
  | ⟨1, _⟩ => show 0 + 1 * n.val = n.val; omega
theorem ldsW_apply (h : Fin 4) (d : Fin 64) (n : Fin 512) : ldsW Wo h (ix2 d n) = Wo (ix2 ⟨64 * h.val + d.val, by omega⟩ n) := by
  revert h
  refine Fin.forall_fin_succ.mpr ⟨?_, Fin.forall_fin_succ.mpr ⟨?_, Fin.forall_fin_succ.mpr ⟨?_, Fin.forall_fin_succ.mpr ⟨?_, fun h => h.elim0⟩⟩⟩⟩
  all_goals exact ldW_apply Wo _ _ d n _ rfl
theorem ldX0_apply (i : Fin 256) (e : Fin 512) : ldX0 (F := Ideal) X (ix3 (0 : Fin 1) i e) = X (ix3 (0 : Fin 2) i e) := by
  refine congrArg X (funext fun a => Fin.ext ?_)
  match a with
  | ⟨0, _⟩ => rfl
  | ⟨1, _⟩ => show 0 + 1 * i.val = i.val; omega
  | ⟨2, _⟩ => show 0 + 1 * e.val = e.val; omega
theorem ldX1_apply (i : Fin 256) (e : Fin 512) : ldX1 (F := Ideal) X (ix3 (0 : Fin 1) i e) = X (ix3 (1 : Fin 2) i e) := by
  refine congrArg X (funext fun a => Fin.ext ?_)
  match a with
  | ⟨0, _⟩ => rfl
  | ⟨1, _⟩ => show 0 + 1 * i.val = i.val; omega
  | ⟨2, _⟩ => show 0 + 1 * e.val = e.val; omega
theorem ldWq_apply (e : Fin 512) (n : Fin 256) : ldWq (F := Ideal) Wq (ix2 e n) = Wq (ix2 e n) := by
  refine congrArg Wq (funext fun a => Fin.ext ?_)
  match a with
  | ⟨0, _⟩ => show 0 + 1 * e.val = e.val; omega
  | ⟨1, _⟩ => show 0 + 1 * n.val = n.val; omega

/-- The first 256 rows in the named operations. -/
theorem accTop_eq : accTop (F := Ideal) X K V Wq Wo = kHalf (k0_pay2 (F := Ideal) (ldX0 (F := Ideal) X) (ldWq (F := Ideal) Wq)) (lds0 K) (lds0 V) (ldsW Wo) := by
  unfold accTop k0_pay10 s02 k0_pay8 s01 k0_pay5 c00 k0_pay4 k0_pay9 k0_pay7 k0_pay6 k0_pay3 q0
  exact shapeCast_self _ _

/-- The last 256 rows in the named operations. -/
theorem accBot_eq : accBot (F := Ideal) X K V Wq Wo = kHalf (k0_pay2 (F := Ideal) (ldX1 (F := Ideal) X) (ldWq (F := Ideal) Wq)) (lds1 K) (lds1 V) (ldsW Wo) := by
  unfold accBot k0_pay19 s12 k0_pay17 s11 k0_pay14 k0_pay13 k0_pay18 k0_pay16 k0_pay15 k0_pay12 q1 k0_pay11
  exact shapeCast_self _ _

/-- Batch `b`'s rows of the partial product from what was loaded. -/
theorem half_val (b : Fin 2) (x : FVec Ideal S1x256x512 .f32) (k v : Fin 4 → FVec Ideal S1x256x1x64 .f32)
    (hx : ∀ i e, x (ix3 (0 : Fin 1) i e) = X (ix3 b i e)) (hk : ∀ h j d, k h (ix4 (0 : Fin 1) j (0 : Fin 1) d) = K (ix4 b j h d))
    (hv : ∀ h j d, v h (ix4 (0 : Fin 1) j (0 : Fin 1) d) = V (ix4 b j h d)) (i : Fin 256) (n : Fin 512) :
    kHalf (k0_pay2 (F := Ideal) x (ldWq (F := Ideal) Wq)) k v (ldsW Wo) (ix2 i n) = accVal X K V Wq Wo b i n := by
  rw [kHalf_apply]
  refine Finset.sum_congr rfl fun h _ => Finset.sum_congr rfl fun d _ => ?_
  rw [ldsW_apply]
  have eq : sliceQ (k0_pay2 (F := Ideal) x (ldWq (F := Ideal) Wq)) h = qOf X Wq b h := funext fun i => funext fun d =>
    (kQ_apply x _ i _).trans (Finset.sum_congr rfl fun e _ => congrArg₂ (· * ·) (hx i e) (ldWq_apply Wq e _))
  have ek : (fun j d => k h (ix4 (0 : Fin 1) j (0 : Fin 1) d)) = hOf K b h := funext fun j => funext fun d => hk h j d
  have ev : (fun j d => v h (ix4 (0 : Fin 1) j (0 : Fin 1) d)) = hOf V b h := funext fun j => funext fun d => hv h j d
  rw [eq, ek, ev]

/-- The first 256 rows of the partial product, element by element. -/
theorem accTop_apply (i : Fin 256) (n : Fin 512) : accTop (F := Ideal) X K V Wq Wo (ix2 i n) = accVal X K V Wq Wo 0 i n :=
  (congrFun (accTop_eq X K V Wq Wo) _).trans
    (half_val X K V Wq Wo 0 _ _ _ (ldX0_apply X) (lds0_apply K) (lds0_apply V) i n)
/-- The last 256 rows of the partial product, element by element. -/
theorem accBot_apply (i : Fin 256) (n : Fin 512) : accBot (F := Ideal) X K V Wq Wo (ix2 i n) = accVal X K V Wq Wo 1 i n :=
  (congrFun (accBot_eq X K V Wq Wo) _).trans
    (half_val X K V Wq Wo 1 _ _ _ (ldX1_apply X) (lds1_apply K) (lds1_apply V) i n)

end Loads

end Cert.KernelIdealProof

end
-- ==== Proof.OutVal.lean ====
/-
# OutVal — the kernel's result, element by element

Each device's result as the sum over the devices of their partial products, and the operands the partial products are of, read back to
the program's arguments.
-/
module

public import proofs.«01_k».proof.Proof.AccVal
public import proofs.«01_k».proof.Proof.Peers

@[expose] public section

noncomputable section

namespace Cert.KernelIdealProof

open Cert.KernelIdeal Cert.KernelIdeal.Gen

open Idealize.ShloMosaic
open Idealize.ShloMosaic.TcCoe
open Idealize.ShloMosaic.ValueIdx

variable (m : (ℓ : Loc nD τ sig) → Buf (Elt Ideal) ℓ)

/-- Device `c`'s partial product at batch `b`, row `i`, column `n`, from what the device staged. -/
def devVal (c : Dev nD) (b : Fin 2) (i : Fin 256) (n : Fin 512) : EReal :=
  accVal (xstg m c) (kstg m c) (vstg m c) (wqs m c) (wos m c) b i n

/-- A device's partial product, element by element. -/
theorem accBuf_apply (c : Dev nD) (r n : Fin 512) :
    (accBuf m c : FVec Ideal S512x512 .f32) (ix2 r n)
      = devVal m c ⟨r.val / 256, by omega⟩ ⟨r.val % 256, Nat.mod_lt _ (by decide)⟩ n := by
  have hr : r.val < 512 := r.isLt
  show (if h : r.val < 256 then _ else _) = _
  split
  · rename_i h
    have e1 : (⟨r.val / 256, by omega⟩ : Fin 2) = 0 := Fin.ext (by show r.val / 256 = 0; omega)
    have e2 : (⟨r.val % 256, Nat.mod_lt _ (by decide)⟩ : Fin 256) = ⟨r.val, h⟩ := Fin.ext (by show r.val % 256 = r.val; omega)
    rw [e1, e2]
    exact accTop_apply _ _ _ _ _ _ _
  · rename_i h
    have e1 : (⟨r.val / 256, by omega⟩ : Fin 2) = 1 := Fin.ext (by show r.val / 256 = 1; omega)
    have e2 : (⟨r.val % 256, Nat.mod_lt _ (by decide)⟩ : Fin 256) = ⟨r.val - 256, by omega⟩ := Fin.ext (by show r.val % 256 = r.val - 256; omega)
    rw [e1, e2]
    exact accBot_apply _ _ _ _ _ _ _

/-- Row `a` of device `c`'s row block, as a row of the whole. -/
def rowOf (c : Dev nD) (a : Fin 32) : Fin 512 := ⟨32 * c.val + a.val, by have h : c.val < 16 := c.isLt; omega⟩

/-- What a device reads of its own row block. -/
theorem ldA_apply (c : Dev nD) (a : Fin 32) (n : Fin 512) :
    (ldA m c : FVec Ideal S32x512 .f32) (ix2 a n) = (accBuf m c : FVec Ideal S512x512 .f32) (ix2 (rowOf c a) n) := by
  refine congrArg (accBuf m c) (funext fun x => Fin.ext ?_)
  have e := k0_off7_eq c
  match x with
  | ⟨0, _⟩ => show k0_off7 c 0 + 1 * a.val = 32 * c.val + a.val; rw [e]; show 32 * c.val + 1 * a.val = _; omega
  | ⟨1, _⟩ => show k0_off7 c 1 + 1 * n.val = n.val; rw [e]; show 0 + 1 * n.val = _; omega

/-- What a device reads of a landing slot: its own row block of the peer's partial product. -/
theorem ldC_apply (c : Dev nD) (r : Fin 15) (a : Fin 32) (n : Fin 512) :
    (ldC m c r : FVec Ideal S1x32x512 .f32) (ix3 (0 : Fin 1) a n)
      = (accBuf m (peer c r.val) : FVec Ideal S512x512 .f32) (ix2 (rowOf c a) n) := by
  have e := k0_off9_eq c r
  have h0 : k0_off9 c (BitVec.ofNat 32 (1 + r.val)) 0 + 1 * 0 = (c.val + r.val + 1) % 16 := by rw [e]; rfl
  have h1 : k0_off9 c (BitVec.ofNat 32 (1 + r.val)) 1 + 1 * a.val = a.val := by rw [e]; show 0 + 1 * a.val = _; omega
  have h2 : k0_off9 c (BitVec.ofNat 32 (1 + r.val)) 2 + 1 * n.val = n.val := by rw [e]; show 0 + 1 * n.val = _; omega
  show accBuf m ⟨k0_off9 c (BitVec.ofNat 32 (1 + r.val)) 0 + 1 * 0, _⟩
    (ix2 ⟨32 * c.val + (k0_off9 c (BitVec.ofNat 32 (1 + r.val)) 1 + 1 * a.val), _⟩ ⟨k0_off9 c (BitVec.ofNat 32 (1 + r.val)) 2 + 1 * n.val, _⟩ : S512x512.Idx) = _
  have e0 : (⟨k0_off9 c (BitVec.ofNat 32 (1 + r.val)) 0 + 1 * 0, by rw [h0]; exact Nat.mod_lt _ (by decide)⟩ : Dev nD) = peer c r.val := Fin.ext h0
  have e1 : (⟨32 * c.val + (k0_off9 c (BitVec.ofNat 32 (1 + r.val)) 1 + 1 * a.val), by rw [h1]; exact (rowOf c a).isLt⟩ : Fin 512) = rowOf c a :=
    Fin.ext (by show 32 * c.val + _ = 32 * c.val + a.val; rw [h1])
  have e2 : (⟨k0_off9 c (BitVec.ofNat 32 (1 + r.val)) 2 + 1 * n.val, by rw [h2]; exact n.isLt⟩ : Fin 512) = n := Fin.ext h2
  exact congrArg₂ (fun (d : Dev nD) (j : S512x512.Idx) => accBuf m d j) e0 (congrArg₂ ix2 e1 e2)

/-- A sum over the devices: a device's own term and its peers'. -/
theorem sum_devices (c : Dev nD) (f : Dev nD → EReal) : ∑ d : Dev nD, f d = f c + ∑ r : Fin 15, f (peer c r.val) := by
  rw [← Finset.add_sum_erase _ f (Finset.mem_univ c), erase_peers,
    Finset.sum_image fun i hi j hj => peer_inj c (Finset.mem_range.mp hi) (Finset.mem_range.mp hj), Finset.sum_range]

/-- Sixteen terms added one after another. -/
theorem add_fifteen (a : EReal) (g : Fin 15 → EReal) :
    a + ∑ r : Fin 15, g r = a + g 0 + g 1 + g 2 + g 3 + g 4 + g 5 + g 6 + g 7 + g 8 + g 9 + g 10 + g 11 + g 12 + g 13 + g 14 := by
  simp only [Fin.sum_univ_castSucc, Fin.sum_univ_zero, zero_add, ← add_assoc]
  rfl

/-- A device's partial product at row `r`, column `n`. -/
def accAt (d : Dev nD) (r n : Fin 512) : EReal := (accBuf m d : FVec Ideal S512x512 .f32) (ix2 r n)

/-- A device's reduced rows are the sum over the devices of the partial products' rows. -/
theorem redRows_apply (c : Dev nD) (a : Fin 32) (n : Fin 512) :
    (redRows m c : FVec Ideal S32x512 .f32) (ix2 a n)
      = ∑ d : Dev nD, accAt m d (rowOf c a) n := by
  have cast : ∀ x : FVec Ideal S1x32x512 .f32, shapeCast S32x512 x shapeCasts_S1x32x512_S32x512 (ix2 a n) = x (ix3 (0 : Fin 1) a n) :=
    fun x => shapeCast_1ab_ab_apply x _ a n
  rw [sum_devices c, add_fifteen]
  unfold accAt
  rw [← ldA_apply, ← ldC_apply m c 0, ← ldC_apply m c 1, ← ldC_apply m c 2, ← ldC_apply m c 3, ← ldC_apply m c 4, ← ldC_apply m c 5,
    ← ldC_apply m c 6, ← ldC_apply m c 7, ← ldC_apply m c 8, ← ldC_apply m c 9, ← ldC_apply m c 10, ← ldC_apply m c 11,
    ← ldC_apply m c 12, ← ldC_apply m c 13, ← ldC_apply m c 14]
  unfold redRows k0_pay28 k0_pay27 k0_pay26 k0_pay25 k0_pay24 k0_pay23 k0_pay22 k0_pay21 k0_pay20
  simp only [addf_apply, cast]

/-- The result, element by element: the sum over the devices of their partial products. -/
theorem outBuf_apply (r n : Fin 512) :
    (outBuf m : FVec Ideal S512x512 .f32) (ix2 r n)
      = ∑ d : Dev nD, devVal m d ⟨r.val / 256, by omega⟩ ⟨r.val % 256, Nat.mod_lt _ (by decide)⟩ n := by
  refine (redRows_apply m ⟨r.val / 32, by show _ < 16; omega⟩ ⟨r.val % 32, Nat.mod_lt _ (by decide)⟩ n).trans ?_
  have e : rowOf ⟨r.val / 32, by show _ < 16; omega⟩ ⟨r.val % 32, Nat.mod_lt _ (by decide)⟩ = r := Fin.ext (by show 32 * (r.val / 32) + r.val % 32 = r.val; omega)
  rw [e]
  exact Finset.sum_congr rfl fun d _ => accBuf_apply m d r n

/-! ## What the device staged -/

/-- The staged `x`. -/
theorem xstg_eq (c : Dev nD) : xstg m c = m ((c : Thread nD τ).loc main_arg0) := by
  refine funext fun i => congrArg (m ((c : Thread nD τ).loc main_arg0)) (funext fun a => Fin.ext ?_)
  show 0 * _ + 1 * (i a).val = (i a).val
  omega
theorem kstg_eq (c : Dev nD) : kstg m c = m ((c : Thread nD τ).loc main_arg2) := by
  refine funext fun i => congrArg (m ((c : Thread nD τ).loc main_arg2)) (funext fun a => Fin.ext ?_)
  show 0 * _ + 1 * (i a).val = (i a).val
  omega
theorem vstg_eq (c : Dev nD) : vstg m c = m ((c : Thread nD τ).loc main_arg3) := by
  refine funext fun i => congrArg (m ((c : Thread nD τ).loc main_arg3)) (funext fun a => Fin.ext ?_)
  show 0 * _ + 1 * (i a).val = (i a).val
  omega
/-- The copied columns of the query weights. -/
theorem wqs_apply (c : Dev nD) (e : Fin 512) (n : Fin 256) :
    (wqs m c : FVec Ideal S512x256 .f32) (ix2 e n)
      = (m ((c : Thread nD τ).loc main_arg1) : FVec Ideal S512x4096 .f32) (ix2 e ⟨256 * c.val + n.val, by have h : c.val < 16 := c.isLt; omega⟩) := by
  have h := k0_off1_eq c
  refine congrArg (m ((c : Thread nD τ).loc main_arg1)) (funext fun x => Fin.ext ?_)
  match x with
  | ⟨0, _⟩ => show k0_off1 c 0 + 1 * e.val = e.val; rw [h]; show 0 + 1 * e.val = _; omega
  | ⟨1, _⟩ => show k0_off1 c 1 + 1 * n.val = 256 * c.val + n.val; rw [h]; show 256 * c.val + 1 * n.val = _; omega
/-- The copied rows of the output weights. -/
theorem wos_apply (c : Dev nD) (e : Fin 256) (n : Fin 512) :
    (wos m c : FVec Ideal S256x512 .f32) (ix2 e n)
      = (m ((c : Thread nD τ).loc main_arg4) : FVec Ideal S4096x512 .f32) (ix2 ⟨256 * c.val + e.val, by have h : c.val < 16 := c.isLt; omega⟩ n) := by
  have h := k0_off2_eq c
  refine congrArg (m ((c : Thread nD τ).loc main_arg4)) (funext fun x => Fin.ext ?_)
  match x with
  | ⟨0, _⟩ => show k0_off2 c 0 + 1 * e.val = 256 * c.val + e.val; rw [h]; show 256 * c.val + 1 * e.val = _; omega
  | ⟨1, _⟩ => show k0_off2 c 1 + 1 * n.val = n.val; rw [h]; show 0 + 1 * n.val = _; omega

end Cert.KernelIdealProof

end
-- ==== Proof.RefVal.lean ====
/-
# RefVal — the reference's result, element by element

The reference's operations named step by step, each read at an index: its result is, at every place, the sum over the sixty-four heads
of the head's context times the head's rows of the output weights.
-/
module

public import proofs.«01_k».proof.Proof.Attn
public import proofs.«01_k».proof.Proof.Gen.ReferenceIdeal.Run
public import Idealize.ShloMosaic.Lib.KernelVsHost
public import Idealize.ShloMosaic.Lib.IdealHost
public import Idealize.ShloMosaic.Lib.ValueIdx

@[expose] public section

noncomputable section

namespace Cert.ReferenceIdealProof

open Cert.ReferenceIdeal Cert.ReferenceIdeal.Gen
open Cert.KernelIdealProof (near score top part soft ctx)

open Idealize.ShloMosaic
open Idealize.ShloMosaic.TcCoe
open Idealize.ShloMosaic.ValueIdx

/-! ## The reference's steps -/

/-- Which keys are within the window of which queries. -/
def rMask : IVec S256x256 1 :=
  cmpi .sle (absi (subi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 128#32))
/-- Which queries have some key within their window. -/
def rKeep : IVec S256 1 := Host.reduce IntOp.ori rMask (constantI S_ 1 0#1) reducesTo_S256x256_S256_d1 h_S_
/-- The queries, head by head. -/
def rQ (X : FVec Ideal S2x256x512 .f32) (Wq : FVec Ideal S512x4096 .f32) : FVec Ideal S2x256x64x64 .f32 :=
  shapeCast _ (Host.dotGeneral dot_S2x256x512_S512x4096_S2x256x4096_2_0_01_1_n_n none X Wq) shapeCasts_S2x256x4096_S2x256x64x64
/-- The masked scores. -/
def rScore (Q K : FVec Ideal S2x256x64x64 .f32) : FVec Ideal S2x64x256x256 .f32 :=
  select (broadcastInDim S2x64x256x256 ![0, 1, 2, 3] bcast_S1x1x256x256_S2x64x256x256_0_1_2_3 (broadcastInDim S1x1x256x256 ![2, 3] bcast_S256x256_S1x1x256x256_2_3 rMask))
    (mulf (Host.dotGeneral dot_S2x256x64x64_S2x256x64x64_S2x64x256x256_3_3_1_1_02_02 none Q K) (broadcastInDim S2x64x256x256 ![] bcast_S_S2x64x256x256 (constant S_ .f32 0x3E000000#32)))
    (broadcastInDim S2x64x256x256 ![] bcast_S_S2x64x256x256 (id (constant S_ .f32 0xCE6E6B28#32)))
/-- A value per query laid along the keys. -/
def rRows (x : FVec Ideal S2x64x256x1 .f32) : FVec Ideal S2x64x256x256 .f32 :=
  broadcastInDim S2x64x256x256 ![0, 1, 2, 3] bcast_S2x64x256x1_S2x64x256x256_0_1_2_3 x
/-- The exponentials of the scores less each query's greatest. -/
def rExp (s : FVec Ideal S2x64x256x256 .f32) : FVec Ideal S2x64x256x256 .f32 :=
  Host.exp (subf s (rRows (broadcastInDim S2x64x256x1 ![0, 1, 2] bcast_S2x64x256_S2x64x256x1_0_1_2 (Host.reduce FloatOps.maximumf s (constant S_ .f32 0xFF800000#32) reducesTo_S2x64x256x256_S2x64x256_d3 h_S_))))
/-- Each query's sum, or one where the query has no key. -/
def rSum (s : FVec Ideal S2x64x256x256 .f32) : FVec Ideal S2x64x256x1 .f32 :=
  select (broadcastInDim S2x64x256x1 ![0, 1, 2, 3] bcast_S1x1x256x1_S2x64x256x1_0_1_2_3 (broadcastInDim S1x1x256x1 ![2] bcast_S256_S1x1x256x1_2 rKeep))
    (broadcastInDim S2x64x256x1 ![0, 1, 2] bcast_S2x64x256_S2x64x256x1_0_1_2 (Host.reduceAdd (rExp s) (constant S_ .f32 0x00000000#32) reducesTo_S2x64x256x256_S2x64x256_d3 h_S_))
    (broadcastInDim S2x64x256x1 ![] bcast_S_S2x64x256x1 (id (constant S_ .f32 0x3F800000#32)))
/-- The weights, or zero where the query has no key. -/
def rSoft (s : FVec Ideal S2x64x256x256 .f32) : FVec Ideal S2x64x256x256 .f32 :=
  select (broadcastInDim S2x64x256x256 ![0, 1, 2, 3] bcast_S1x1x256x1_S2x64x256x256_0_1_2_3 (broadcastInDim S1x1x256x1 ![2] bcast_S256_S1x1x256x1_2 rKeep))
    (Host.divf (rExp s) (rRows (rSum s)))
    (broadcastInDim S2x64x256x256 ![] bcast_S_S2x64x256x256 (id (constant S_ .f32 0x00000000#32)))
/-- The contexts, the heads laid side by side. -/
def rCtx (V : FVec Ideal S2x256x64x64 .f32) (w : FVec Ideal S2x64x256x256 .f32) : FVec Ideal S2x256x4096 .f32 :=
  shapeCast _ (transpose S2x256x64x64 [0, 3, 1, 2] (Host.dotGeneral dot_S2x256x64x64_S2x64x256x256_S2x64x64x256_1_3_3_2_02_01 none V w) transposes_S2x64x64x256_S2x256x64x64_0_3_1_2) shapeCasts_S2x256x64x64_S2x256x4096
/-- The result. -/
def rOut (X : FVec Ideal S2x256x512 .f32) (Wq : FVec Ideal S512x4096 .f32) (K V : FVec Ideal S2x256x64x64 .f32) (Wo : FVec Ideal S4096x512 .f32) :
    FVec Ideal S512x512 .f32 :=
  shapeCast _ (Host.dotGeneral dot_S2x256x4096_S4096x512_S2x256x512_2_0_01_1_n_n none (rCtx V (rSoft (rScore (rQ X Wq) K))) Wo) shapeCasts_S2x256x512_S512x512

/-- The reference's result is the last of the steps. -/
theorem res_eq (m : (ℓ : Loc nD τ sig) → Buf (Elt Ideal) ℓ) (c : Dev nD) :
    Value.res_main_v35 (F := Ideal) m c
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Value.res_main_v35
  rfl

/-! ## The mask -/

/-- The mask's word from the two positions. -/
def nearWord (i j : Fin 256) : BitVec 1 := IntOp.cmpi .sle (IntOp.absi (IntOp.subi (BitVec.ofNat 32 i.val) (BitVec.ofNat 32 j.val))) 128#32

theorem near_eq (i j : Fin 256) : near i j = nearWord i j := by
  have e : near i j = IntOp.cmpi .sle (IntOp.absi (IntOp.subi (BitVec.ofNat 32 (0 * 256 + i.val)) (BitVec.ofNat 32 (0 * 256 + j.val)))) 128#32 := rfl
  rw [e, Nat.zero_mul, Nat.zero_add, Nat.zero_add]
  rfl

theorem rMask_apply (i j : Fin 256) : rMask (ix2 i j) = near i j := by
  rw [near_eq]
  rfl

/-- A query is within its own window. -/
theorem near_self (i : Fin 256) : near i i = 1#1 := by
  rw [near_eq]
  have e : IntOp.subi (BitVec.ofNat 32 i.val) (BitVec.ofNat 32 i.val) = 0#32 := BitVec.sub_self _
  unfold nearWord
  rw [e]
  decide

theorem ori_one (x : BitVec 1) : IntOp.ori 1#1 x = 1#1 := by revert x; decide

/-- A word joined to others of which one is set is set. -/
theorem fold_ori_one {ι : Type} [DecidableEq ι] (s : Finset ι) (f : ι → BitVec 1) (x : BitVec 1) (a : ι) (ha : a ∈ s) (h : f a = 1#1) :
    s.fold IntOp.ori x f = 1#1 := by
  rw [← Finset.insert_erase ha, Finset.fold_insert (Finset.notMem_erase a s), h]
  exact ori_one _

theorem reduces_d1 : S256x256.Reduces [1] S256 := by decide

/-- Every query has a key. -/
theorem rKeep_apply (i : Fin 256) : rKeep (ix1 i) = 1#1 := by
  unfold rKeep
  refine (Host.reduce_eq_fold_single _ _ _ _ reduces_d1 _ _).trans ?_
  refine fold_ori_one _ _ _ i (Finset.mem_univ i) ?_
  refine (congrArg rMask (funext fun a => ?_)).trans ((rMask_apply i i).trans (near_self i))
  match a with
  | ⟨0, _⟩ => rfl
  | ⟨1, _⟩ => rfl

/-! ## The products -/

theorem dotQ_apply (l : FVec Ideal S2x256x512 .f32) (r : FVec Ideal S512x4096 .f32) (b : Fin 2) (i : Fin 256) (n : Fin 4096) :
    Host.dotGeneral dot_S2x256x512_S512x4096_S2x256x4096_2_0_01_1_n_n none l r (ix3 b i n) = ∑ e : Fin 512, l (ix3 b i e) * r (ix2 e n) := by
  refine (Ideal.dotGeneral_apply _ _ _ _ _ _).trans ?_
  rw [← Equiv.sum_comp (contrEquiv1 dot_S2x256x512_S512x4096_S2x256x4096_2_0_01_1_n_n 512 rfl rfl).symm]
  refine Finset.sum_congr rfl fun k _ => ?_
  have hk := contrEquiv1_symm_val dot_S2x256x512_S512x4096_S2x256x4096_2_0_01_1_n_n 512 rfl rfl k
  refine congrArg₂ (· * ·) (congrArg l (funext fun a => Fin.ext ?_)) (congrArg r (funext fun a => Fin.ext ?_))
  · match a with
    | ⟨0, _⟩ => rfl
    | ⟨1, _⟩ => rfl
    | ⟨2, _⟩ => exact hk
  · match a with
    | ⟨0, _⟩ => exact hk
    | ⟨1, _⟩ => rfl
theorem dotS_apply (l r : FVec Ideal S2x256x64x64 .f32) (b : Fin 2) (h : Fin 64) (i j : Fin 256) :
    Host.dotGeneral dot_S2x256x64x64_S2x256x64x64_S2x64x256x256_3_3_1_1_02_02 none l r (ix4 b h i j) = ∑ d : Fin 64, l (ix4 b i h d) * r (ix4 b j h d) := by
  refine (Ideal.dotGeneral_apply _ _ _ _ _ _).trans ?_
  rw [← Equiv.sum_comp (contrEquiv1 dot_S2x256x64x64_S2x256x64x64_S2x64x256x256_3_3_1_1_02_02 64 rfl rfl).symm]
  refine Finset.sum_congr rfl fun k _ => ?_
  have hk := contrEquiv1_symm_val dot_S2x256x64x64_S2x256x64x64_S2x64x256x256_3_3_1_1_02_02 64 rfl rfl k
  refine congrArg₂ (· * ·) (congrArg l (funext fun a => Fin.ext ?_)) (congrArg r (funext fun a => Fin.ext ?_))
  all_goals
    match a with
    | ⟨0, _⟩ => rfl
    | ⟨1, _⟩ => rfl
    | ⟨2, _⟩ => rfl
    | ⟨3, _⟩ => exact hk
theorem dotC_apply (l : FVec Ideal S2x256x64x64 .f32) (r : FVec Ideal S2x64x256x256 .f32) (b : Fin 2) (h d : Fin 64) (i : Fin 256) :
    Host.dotGeneral dot_S2x256x64x64_S2x64x256x256_S2x64x64x256_1_3_3_2_02_01 none l r (ix4 b h d i) = ∑ j : Fin 256, l (ix4 b j h d) * r (ix4 b h i j) := by
  refine (Ideal.dotGeneral_apply _ _ _ _ _ _).trans ?_
  rw [← Equiv.sum_comp (contrEquiv1 dot_S2x256x64x64_S2x64x256x256_S2x64x64x256_1_3_3_2_02_01 256 rfl rfl).symm]
  refine Finset.sum_congr rfl fun k _ => ?_
  have hk := contrEquiv1_symm_val dot_S2x256x64x64_S2x64x256x256_S2x64x64x256_1_3_3_2_02_01 256 rfl rfl k
  refine congrArg₂ (· * ·) (congrArg l (funext fun a => Fin.ext ?_)) (congrArg r (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk
theorem dotO_apply (l : FVec Ideal S2x256x4096 .f32) (r : FVec Ideal S4096x512 .f32) (b : Fin 2) (i : Fin 256) (n : Fin 512) :
    Host.dotGeneral dot_S2x256x4096_S4096x512_S2x256x512_2_0_01_1_n_n none l r (ix3 b i n) = ∑ e : Fin 4096, l (ix3 b i e) * r (ix2 e n) := by
  refine (Ideal.dotGeneral_apply _ _ _ _ _ _).trans ?_
  rw [← Equiv.sum_comp (contrEquiv1 dot_S2x256x4096_S4096x512_S2x256x512_2_0_01_1_n_n 4096 rfl rfl).symm]
  refine Finset.sum_congr rfl fun k _ => ?_
  have hk := contrEquiv1_symm_val dot_S2x256x4096_S4096x512_S2x256x512_2_0_01_1_n_n 4096 rfl rfl k
  refine congrArg₂ (· * ·) (congrArg l (funext fun a => Fin.ext ?_)) (congrArg r (funext fun a => Fin.ext ?_))
  · match a with
    | ⟨0, _⟩ => rfl
    | ⟨1, _⟩ => rfl
    | ⟨2, _⟩ => exact hk
  · match a with
    | ⟨0, _⟩ => exact hk
    | ⟨1, _⟩ => rfl

/-! ## The steps at an index -/

/-- A column of all the heads: head `h`, place `d`. -/
def colOf (h d : Fin 64) : Fin 4096 := ⟨64 * h.val + d.val, by omega⟩

theorem rQ_apply (X : FVec Ideal S2x256x512 .f32) (Wq : FVec Ideal S512x4096 .f32) (b : Fin 2) (i : Fin 256) (h d : Fin 64) :
    rQ X Wq (ix4 b i h d) = ∑ e : Fin 512, X (ix3 b i e) * Wq (ix2 e (colOf h d)) := by
  refine (shapeCast_apply _ _ _ (ix3 b i (colOf h d)) ?_).trans (dotQ_apply X Wq b i (colOf h d))
  rw [Shape.rowMajor_val_three, Shape.rowMajor_val_four]
  show (b.val * 256 + i.val) * 4096 + (64 * h.val + d.val) = ((b.val * 256 + i.val) * 64 + h.val) * 64 + d.val
  omega

theorem rScore_apply (Q K : FVec Ideal S2x256x64x64 .f32) (b : Fin 2) (h : Fin 64) (i j : Fin 256) :
    rScore Q K (ix4 b h i j) = score (fun i d => Q (ix4 b i h d)) (fun j d => K (ix4 b j h d)) i j := by
  have e : rScore Q K (ix4 b h i j) = Scalar.select (rMask (ix2 i j))
      (Host.dotGeneral dot_S2x256x64x64_S2x256x64x64_S2x64x256x256_3_3_1_1_02_02 none Q K (ix4 b h i j) * Ideal.ofBits .f32 0x3E000000#32)
      (Ideal.ofBits .f32 0xCE6E6B28#32) := by
    rfl
  rw [e, dotS_apply, rMask_apply]
  rfl

theorem reduces_d3 : S2x64x256x256.Reduces [3] S2x64x256 := by decide

theorem rMax_apply (s : FVec Ideal S2x64x256x256 .f32) (b : Fin 2) (h : Fin 64) (i : Fin 256) :
    Host.reduce FloatOps.maximumf s (constant S_ .f32 0xFF800000#32) reducesTo_S2x64x256x256_S2x64x256_d3 h_S_ (ix3 b h i) = top (fun j => s (ix4 b h i j)) := by
  refine (congrFun (hostReduce_maximumf_eq_multiReduction s 0xFF800000#32 _ _ reduces_d3 (.inl rfl) rfl) _).trans ?_
  refine (Ideal.multiReduction_maximumf_single _ _ reduces_d3 _ _ _).trans ?_
  refine congrArg (Finset.univ.fold max _) (funext fun k => congrArg s (funext fun a => ?_))
  match a with
  | ⟨0, _⟩ => rfl
  | ⟨1, _⟩ => rfl
  | ⟨2, _⟩ => rfl
  | ⟨3, _⟩ => rfl

theorem rAdd_apply (s : FVec Ideal S2x64x256x256 .f32) (b : Fin 2) (h : Fin 64) (i : Fin 256) :
    Host.reduceAdd s (constant S_ .f32 0x00000000#32) reducesTo_S2x64x256x256_S2x64x256_d3 h_S_ (ix3 b h i) = ∑ j : Fin 256, s (ix4 b h i j) := by
  refine (Ideal.hostReduceAdd_single reducesTo_S2x64x256x256_S2x64x256_d3 reduces_d3 s _ _).trans ?_
  have z : constant (F := Ideal) S_ .f32 0x00000000#32 (Shape.Idx.first h_S_) = (0 : EReal) := Ideal.ofBits_zero_f32
  rw [z, zero_add]
  refine Finset.sum_congr rfl fun k _ => congrArg s (funext fun a => ?_)
  match a with
  | ⟨0, _⟩ => rfl
  | ⟨1, _⟩ => rfl
  | ⟨2, _⟩ => rfl
  | ⟨3, _⟩ => rfl

theorem rRows_apply (x : FVec Ideal S2x64x256x1 .f32) (b : Fin 2) (h : Fin 64) (i j : Fin 256) :
    rRows x (ix4 b h i j) = x (ix4 b h i (0 : Fin 1)) := by
  refine broadcastInDim_apply _ _ _ _ _ fun a => ?_
  match a with
  | ⟨0, _⟩ => rfl
  | ⟨1, _⟩ => rfl
  | ⟨2, _⟩ => rfl
  | ⟨3, _⟩ => rfl

theorem rUnit_apply (x : FVec Ideal S2x64x256 .f32) (b : Fin 2) (h : Fin 64) (i : Fin 256) :
    broadcastInDim S2x64x256x1 ![0, 1, 2] bcast_S2x64x256_S2x64x256x1_0_1_2 x (ix4 b h i (0 : Fin 1)) = x (ix3 b h i) := by
  refine broadcastInDim_apply _ _ _ _ _ fun a => ?_
  match a with
  | ⟨0, _⟩ => rfl
  | ⟨1, _⟩ => rfl
  | ⟨2, _⟩ => rfl

theorem keep_unit (i : Fin 256) : broadcastInDim S1x1x256x1 ![2] bcast_S256_S1x1x256x1_2 rKeep (ix4 (0 : Fin 1) (0 : Fin 1) i (0 : Fin 1)) = 1#1 := by
  refine (broadcastInDim_apply _ _ _ _ (ix1 i) fun a => ?_).trans (rKeep_apply i)
  match a with
  | ⟨0, _⟩ => rfl

theorem keep_col (b : Fin 2) (h : Fin 64) (i : Fin 256) :
    broadcastInDim S2x64x256x1 ![0, 1, 2, 3] bcast_S1x1x256x1_S2x64x256x1_0_1_2_3 (broadcastInDim S1x1x256x1 ![2] bcast_S256_S1x1x256x1_2 rKeep) (ix4 b h i (0 : Fin 1)) = 1#1 := by
  refine (broadcastInDim_apply _ _ _ _ (ix4 (0 : Fin 1) (0 : Fin 1) i (0 : Fin 1)) fun a => ?_).trans (keep_unit i)
  match a with
  | ⟨0, _⟩ => rfl
  | ⟨1, _⟩ => rfl
  | ⟨2, _⟩ => rfl
  | ⟨3, _⟩ => rfl

theorem keep_all (b : Fin 2) (h : Fin 64) (i j : Fin 256) :
    broadcastInDim S2x64x256x256 ![0, 1, 2, 3] bcast_S1x1x256x1_S2x64x256x256_0_1_2_3 (broadcastInDim S1x1x256x1 ![2] bcast_S256_S1x1x256x1_2 rKeep) (ix4 b h i j) = 1#1 := by
  refine (broadcastInDim_apply _ _ _ _ (ix4 (0 : Fin 1) (0 : Fin 1) i (0 : Fin 1)) fun a => ?_).trans (keep_unit i)
  match a with
  | ⟨0, _⟩ => rfl
  | ⟨1, _⟩ => rfl
  | ⟨2, _⟩ => rfl
  | ⟨3, _⟩ => rfl

theorem rExp_apply (s : FVec Ideal S2x64x256x256 .f32) (b : Fin 2) (h : Fin 64) (i j : Fin 256) :
    rExp s (ix4 b h i j) = part (fun j => s (ix4 b h i j)) j := by
  unfold rExp part
  exact congrArg (fun t : EReal => Ideal.exp (s (ix4 b h i j) - t)) ((rRows_apply _ b h i j).trans ((rUnit_apply _ b h i).trans (rMax_apply s b h i)))

theorem rSum_apply (s : FVec Ideal S2x64x256x256 .f32) (b : Fin 2) (h : Fin 64) (i : Fin 256) :
    rSum s (ix4 b h i (0 : Fin 1)) = ∑ j : Fin 256, part (fun j => s (ix4 b h i j)) j := by
  unfold rSum
  refine (select_apply _ _ _ _).trans ?_
  rw [keep_col, select_one]
  refine (rUnit_apply _ b h i).trans ((rAdd_apply _ b h i).trans ?_)
  exact Finset.sum_congr rfl fun j _ => rExp_apply s b h i j

theorem rDiv_apply (x y : FVec Ideal S2x64x256x256 .f32) (k : S2x64x256x256.Idx) : Host.divf x y k = Ideal.div (x k) (y k) := rfl

theorem rSoft_apply (s : FVec Ideal S2x64x256x256 .f32) (b : Fin 2) (h : Fin 64) (i j : Fin 256) :
    rSoft s (ix4 b h i j) = soft (fun j => s (ix4 b h i j)) j := by
  unfold rSoft soft
  refine (select_apply _ _ _ _).trans ?_
  rw [keep_all, select_one]
  refine (rDiv_apply _ _ _).trans ?_
  rw [rExp_apply, rRows_apply, rSum_apply]

theorem rTurn_apply (x : FVec Ideal S2x64x64x256 .f32) (b : Fin 2) (i : Fin 256) (h d : Fin 64) :
    transpose S2x256x64x64 [0, 3, 1, 2] x transposes_S2x64x64x256_S2x256x64x64_0_3_1_2 (ix4 b i h d) = x (ix4 b h d i) := by
  refine transpose_apply _ _ _ _ _ fun a => ?_
  match a with
  | ⟨0, _⟩ => rfl
  | ⟨1, _⟩ => rfl
  | ⟨2, _⟩ => rfl
  | ⟨3, _⟩ => rfl

theorem rFlat_apply (x : FVec Ideal S2x256x64x64 .f32) (b : Fin 2) (i : Fin 256) (h d : Fin 64) :
    (shapeCast S2x256x4096 x shapeCasts_S2x256x64x64_S2x256x4096 : FVec Ideal S2x256x4096 .f32) (ix3 b i (colOf h d)) = x (ix4 b i h d) := by
  refine shapeCast_apply _ _ _ _ ?_
  rw [Shape.rowMajor_val_three, Shape.rowMajor_val_four]
  show ((b.val * 256 + i.val) * 64 + h.val) * 64 + d.val = (b.val * 256 + i.val) * 4096 + (64 * h.val + d.val)
  omega

theorem rCtx_apply (V : FVec Ideal S2x256x64x64 .f32) (w : FVec Ideal S2x64x256x256 .f32) (b : Fin 2) (i : Fin 256) (h d : Fin 64) :
    rCtx V w (ix3 b i (colOf h d)) = ∑ j : Fin 256, w (ix4 b h i j) * V (ix4 b j h d) := by
  unfold rCtx
  rw [rFlat_apply, rTurn_apply, dotC_apply]
  exact Finset.sum_congr rfl fun j _ => mul_comm _ _

/-- The columns of all the heads, head by head. -/
def colEquiv : Fin 64 × Fin 64 ≃ Fin 4096 where
  toFun p := colOf p.1 p.2
  invFun k := (⟨k.val / 64, by omega⟩, ⟨k.val % 64, Nat.mod_lt _ (by decide)⟩)
  left_inv p := by
    refine Prod.ext (Fin.ext ?_) (Fin.ext ?_)
    · show (64 * p.1.val + p.2.val) / 64 = p.1.val; omega
    · show (64 * p.1.val + p.2.val) % 64 = p.2.val; omega
  right_inv k := Fin.ext (by show 64 * (k.val / 64) + k.val % 64 = k.val; omega)

/-- The reference's result, element by element. -/
theorem rOut_apply (X : FVec Ideal S2x256x512 .f32) (Wq : FVec Ideal S512x4096 .f32) (K V : FVec Ideal S2x256x64x64 .f32) (Wo : FVec Ideal S4096x512 .f32)
    (r n : Fin 512) (b : Fin 2) (i : Fin 256) (hr : r.val = 256 * b.val + i.val) :
    rOut X Wq K V Wo (ix2 r n) = ∑ h : Fin 64, ∑ d : Fin 64,
      ctx (fun i d => ∑ e : Fin 512, X (ix3 b i e) * Wq (ix2 e (colOf h d))) (fun j d => K (ix4 b j h d)) (fun j d => V (ix4 b j h d)) i d
        * Wo (ix2 (colOf h d) n) := by
  refine (shapeCast_apply _ _ _ (ix3 b i n) ?_).trans ?_
  · rw [Shape.rowMajor_val_three, Shape.rowMajor_val_two]
    show (b.val * 256 + i.val) * 512 + n.val = r.val * 512 + n.val
    omega
  rw [dotO_apply, ← Equiv.sum_comp colEquiv, Fintype.sum_prod_type]
  refine Finset.sum_congr rfl fun h _ => Finset.sum_congr rfl fun d _ => congrArg (· * Wo (ix2 (colOf h d) n)) ?_
  refine (rCtx_apply V _ b i h d).trans (Finset.sum_congr rfl fun j _ => congrArg (· * V (ix4 b j h d)) ?_)
  rw [rSoft_apply]
  refine congrArg (soft · j) (funext fun j' => ?_)
  rw [rScore_apply]
  exact congrArg (fun q => score q (fun j d => K (ix4 b j h d)) i j') (funext fun i => funext fun d => rQ_apply X Wq b i h d)

end Cert.ReferenceIdealProof

end
-- ==== Proof.Equal.lean ====
/-
# Equal — the kernel's result on every device is the reference's result

The sum over the devices of sums over each device's four heads is the sum over all the heads; with each device's blocks of the
keys and values the heads' own, the two results agree at every place.
-/
module

public import proofs.«01_k».proof.Defs
public import proofs.«01_k».proof.Proof.OutVal
public import proofs.«01_k».proof.Proof.RefVal
public import proofs.«01_k».proof.Proof.Run
public import proofs.«01_k».proof.Proof.Gen.KernelIdeal
public import proofs.«01_k».proof.Proof.Gen.ReferenceIdeal

@[expose] public section

noncomputable section

namespace Cert.Proof

open Idealize.ShloMosaic Idealize.SL.Sem
open Idealize.ShloMosaic.ValueIdx
open Idealize.ShloMosaic.TcCoe
open Cert.KernelIdealProof Cert.ReferenceIdealProof

/-- Head `h` of device `c`, as a head of the whole. -/
def headOf (c : Fin 16) (h : Fin 4) : Fin 64 := ⟨4 * c.val + h.val, by omega⟩

/-- The heads, device by device. -/
def headEquiv : Fin 16 × Fin 4 ≃ Fin 64 where
  toFun p := headOf p.1 p.2
  invFun k := (⟨k.val / 4, by omega⟩, ⟨k.val % 4, Nat.mod_lt _ (by decide)⟩)
  left_inv p := by
    refine Prod.ext (Fin.ext ?_) (Fin.ext ?_)
    · show (4 * p.1.val + p.2.val) / 4 = p.1.val; omega
    · show (4 * p.1.val + p.2.val) % 4 = p.2.val; omega
  right_inv k := Fin.ext (by show 4 * (k.val / 4) + k.val % 4 = k.val; omega)

/-- A sum over the heads is the sum over the devices of the sums over their heads. -/
theorem sum_heads (f : Fin 64 → EReal) : ∑ h : Fin 64, f h = ∑ c : Fin 16, ∑ h : Fin 4, f (headOf c h) := by
  rw [← Equiv.sum_comp headEquiv, Fintype.sum_prod_type]
  rfl

/-- A device's block of the keys or values, at an index. -/
theorem block_heads (c : Fin 16) (v : FVec Ideal ⟨4, ![2, 256, 64, 64]⟩ .f32) (b : Fin 2) (j : Fin 256) (h : Fin 4) (d : Fin 64) :
    (Layout.block ⟨4, ![2, 256, 4, 64]⟩ ⟨4, ![2, 256, 64, 64]⟩ 2 16 c v) (ix4 b j h d) = v (ix4 b j (headOf c h) d) := by
  refine congrArg v (funext fun a => Fin.ext ?_)
  match a with
  | ⟨0, _⟩ => rfl
  | ⟨1, _⟩ => rfl
  | ⟨2, _⟩ => show c.val * 4 + h.val = 4 * c.val + h.val; omega
  | ⟨3, _⟩ => rfl

variable (m : (ℓ : Loc Cert.KernelIdeal.nD Cert.KernelIdeal.τ Cert.KernelIdeal.sig) → Buf (Elt Ideal) ℓ)
  (X : FVec Ideal Cert.ReferenceIdeal.S2x256x512 .f32) (Wq : FVec Ideal Cert.ReferenceIdeal.S512x4096 .f32)
  (K V : FVec Ideal Cert.ReferenceIdeal.S2x256x64x64 .f32) (Wo : FVec Ideal Cert.ReferenceIdeal.S4096x512 .f32)

/-- Each device's arguments are its parts of the whole arrays. -/
def Parted : Prop :=
  ∀ c : Dev Cert.KernelIdeal.nD,
    m ((c.tc : Thread Cert.KernelIdeal.nD Cert.KernelIdeal.τ).loc Cert.KernelIdeal.main_arg0) = X
    ∧ m ((c.tc : Thread Cert.KernelIdeal.nD Cert.KernelIdeal.τ).loc Cert.KernelIdeal.main_arg1) = Wq
    ∧ m ((c.tc : Thread Cert.KernelIdeal.nD Cert.KernelIdeal.τ).loc Cert.KernelIdeal.main_arg2) = Layout.block ⟨4, ![2, 256, 4, 64]⟩ ⟨4, ![2, 256, 64, 64]⟩ 2 16 c K
    ∧ m ((c.tc : Thread Cert.KernelIdeal.nD Cert.KernelIdeal.τ).loc Cert.KernelIdeal.main_arg3) = Layout.block ⟨4, ![2, 256, 4, 64]⟩ ⟨4, ![2, 256, 64, 64]⟩ 2 16 c V
    ∧ m ((c.tc : Thread Cert.KernelIdeal.nD Cert.KernelIdeal.τ).loc Cert.KernelIdeal.main_arg4) = Wo

variable {m X Wq K V Wo}

theorem query_eq (H : Parted m X Wq K V Wo) (c : Dev Cert.KernelIdeal.nD) (b : Fin 2) (h : Fin 4) :
    qOf (xstg m c) (wqs m c) b h = fun i d => ∑ e : Fin 512, X (ix3 b i e) * Wq (ix2 e (colOf (headOf c h) d)) := by
  funext i d
  refine Finset.sum_congr rfl fun e _ => congrArg₂ (· * ·) ?_ ?_
  · rw [xstg_eq]; exact congrFun (H c).1 _
  · refine (wqs_apply m c e _).trans ((congrFun (H c).2.1 _).trans (congrArg Wq (congrArg (ix2 e) (Fin.ext ?_))))
    show 256 * c.val + (64 * h.val + d.val) = 64 * (4 * c.val + h.val) + d.val
    omega
theorem key_eq (H : Parted m X Wq K V Wo) (c : Dev Cert.KernelIdeal.nD) (b : Fin 2) (h : Fin 4) :
    hOf (kstg m c) b h = fun j d => K (ix4 b j (headOf c h) d) := by
  funext j d
  unfold hOf
  rw [kstg_eq]
  exact (congrFun (H c).2.2.1 _).trans (block_heads c K b j h d)
theorem value_eq (H : Parted m X Wq K V Wo) (c : Dev Cert.KernelIdeal.nD) (b : Fin 2) (h : Fin 4) :
    hOf (vstg m c) b h = fun j d => V (ix4 b j (headOf c h) d) := by
  funext j d
  unfold hOf
  rw [vstg_eq]
  exact (congrFun (H c).2.2.2.1 _).trans (block_heads c V b j h d)
theorem weight_eq (H : Parted m X Wq K V Wo) (c : Dev Cert.KernelIdeal.nD) (h : Fin 4) (d : Fin 64) (n : Fin 512) :
    (wos m c : FVec Ideal Cert.KernelIdeal.S256x512 .f32) (ix2 ⟨64 * h.val + d.val, by omega⟩ n) = Wo (ix2 (colOf (headOf c h) d) n) := by
  refine (wos_apply m c _ n).trans ((congrFun (H c).2.2.2.2 _).trans (congrArg Wo (congrArg (ix2 · n) (Fin.ext ?_))))
  show 256 * c.val + (64 * h.val + d.val) = 64 * (4 * c.val + h.val) + d.val
  omega

/-- The devices' partial products add to the sum over all the heads. -/
theorem devices_eq (H : Parted m X Wq K V Wo) (b : Fin 2) (i : Fin 256) (n : Fin 512) :
    ∑ c : Dev Cert.KernelIdeal.nD, devVal m c b i n = ∑ h : Fin 64, ∑ d : Fin 64,
      ctx (fun i d => ∑ e : Fin 512, X (ix3 b i e) * Wq (ix2 e (colOf h d))) (fun j d => K (ix4 b j h d)) (fun j d => V (ix4 b j h d)) i d
        * Wo (ix2 (colOf h d) n) := by
  refine Eq.trans ?_ (sum_heads _).symm
  refine Finset.sum_congr rfl fun c _ => ?_
  unfold devVal accVal
  refine Finset.sum_congr rfl fun h _ => Finset.sum_congr rfl fun d _ => ?_
  rw [query_eq H, key_eq H, value_eq H, weight_eq H]

/-- The two results agree. -/
theorem out_eq (H : Parted m X Wq K V Wo) : (outBuf m : FVec Ideal Cert.KernelIdeal.S512x512 .f32) = rOut X Wq K V Wo := by
  funext i
  rw [eq_ix2 i]
  generalize i 0 = r
  generalize i 1 = n
  revert r n
  intro (r : Fin 512) (n : Fin 512)
  exact (outBuf_apply m r n).trans ((devices_eq H _ _ n).trans
    (rOut_apply X Wq K V Wo r n ⟨r.val / 256, by omega⟩ ⟨r.val % 256, Nat.mod_lt _ (by decide)⟩ (by show r.val = 256 * (r.val / 256) + r.val % 256; omega)).symm)

/-- What a device's result array ends holding. -/
theorem result_eq (m : (ℓ : Loc Cert.KernelIdeal.nD Cert.KernelIdeal.τ Cert.KernelIdeal.sig) → Buf (Elt Ideal) ℓ) (c : Dev Cert.KernelIdeal.nD) :
    finalA m c (3 : Fin 4) = outBuf m := by
  refine Eq.trans (funext fun i => congrArg (finalA m c (3 : Fin 4)) (funext fun a => Fin.ext ?_)) (finalA_o m c)
  show (i a).val = 0 * _ + 1 * (i a).val
  omega

/-- The kernel over the reals computes the reference over the reals. -/
theorem algebraic : Cert.algebraic_KernelIdeal_ReferenceIdeal := by
  intro m g m' g' _ H
  refine ⟨Cert.ReferenceIdeal.Value.res_main_v35 (F := Ideal) m' 0, ?_, ?_⟩
  · refine (θ_run Cert.KernelIdeal.defs _ _).mono (fun _ h c => ⟨?_, ((h.1 c).1 (0 : Fin 4)).trans (finalA_x m c), (h.1 c).2.1,
      ((h.1 c).1 (1 : Fin 4)).trans (finalA_k m c), ((h.1 c).1 (2 : Fin 4)).trans (finalA_v m c), (h.1 c).2.2⟩) (run_main (F := Ideal) m g)
    refine ((h.1 c).1 (3 : Fin 4)).trans ((result_eq m c).trans ?_)
    rw [res_eq]
    exact out_eq H
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Equal
public import proofs.«01_k».proof.Proof.Bits.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
